-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![512, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![512, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S12x128x256 : Shape := ⟨3, ![12, 128, 256]⟩
abbrev S12x256x128 : Shape := ⟨3, ![12, 256, 128]⟩
abbrev S6x3 : Shape := ⟨2, ![6, 3]⟩
abbrev S_ : Shape := ⟨0, ![]⟩
abbrev S1x128x256 : Shape := ⟨3, ![1, 128, 256]⟩
abbrev S1x256x128 : Shape := ⟨3, ![1, 256, 128]⟩
abbrev S1x1 : Shape := ⟨2, ![1, 1]⟩

abbrev nBuf : Space → Nat
  | .hbm => 8
  | .vmem => 10
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S128x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S128x128, .f32⟩
  | .local _ .vmem, ⟨8, _⟩ => ⟨S12x128x256, .bf16⟩
  | .local _ .vmem, ⟨9, _⟩ => ⟨S12x256x128, .bf16⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c0_i32_28 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi c0_i32_28 v2
  let v47 : Index := Scalar.indexCast v46
  let c0_29 : Index := 0#32
  let c0_30 : Index := 0#32
  ![v47.toNat, 0, 0]
def k0_off2 (d0 : Dev nD) (c0_i32_33 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi c0_i32_33 v2
  let v55 : Index := Scalar.indexCast v54
  let c0_34 : Index := 0#32
  let c0_35 : Index := 0#32
  ![v55.toNat, 0, 0]
def k0_off3 (d0 : Dev nD) (c0_i32_63 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v102 : BitVec 32 := Scalar.addi c0_i32_63 v2
  let c0_i32_70 : BitVec 32 := 0#32
  let c0_i32_71 : BitVec 32 := 0#32
  ![v102.toNat, 0, 0]
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_56 : BitVec 32 := 1#32
  let v91 : BitVec 32 := Scalar.addi v2 c1_i32_56
  let c4_i32_57 : BitVec 32 := 4#32
  let c0_i32_58 : BitVec 32 := 0#32
  let v92 : BitVec 1 := Scalar.cmpi .eq c4_i32_57 c0_i32_58
  let c1_i32_59 : BitVec 32 := 1#32
  let v93 : BitVec 32 := Scalar.select v92 c1_i32_59 c4_i32_57
  let v94 : BitVec 32 := Scalar.remsi v91 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  let c1_i32_68 : BitVec 32 := 1#32
  let v103 : BitVec 32 := Scalar.muli v101 c1_i32_68
  let v104 : BitVec 32 := Scalar.addi c0_i32_69 v103
  v104.toNat
def k0_off4 (d0 : Dev nD) (c0_i32_74 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v111 : BitVec 32 := Scalar.addi c0_i32_74 v2
  let c0_i32_81 : BitVec 32 := 0#32
  let c0_i32_82 : BitVec 32 := 0#32
  ![v111.toNat, 0, 0]
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_56 : BitVec 32 := 1#32
  let v91 : BitVec 32 := Scalar.addi v2 c1_i32_56
  let c4_i32_57 : BitVec 32 := 4#32
  let c0_i32_58 : BitVec 32 := 0#32
  let v92 : BitVec 1 := Scalar.cmpi .eq c4_i32_57 c0_i32_58
  let c1_i32_59 : BitVec 32 := 1#32
  let v93 : BitVec 32 := Scalar.select v92 c1_i32_59 c4_i32_57
  let v94 : BitVec 32 := Scalar.remsi v91 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  let c1_i32_79 : BitVec 32 := 1#32
  let v112 : BitVec 32 := Scalar.muli v101 c1_i32_79
  let v113 : BitVec 32 := Scalar.addi c0_i32_80 v112
  v113.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_85 : BitVec 32 := 2#32
  let v120 : BitVec 32 := Scalar.addi v2 c2_i32_85
  let c4_i32_86 : BitVec 32 := 4#32
  let c0_i32_87 : BitVec 32 := 0#32
  let v121 : BitVec 1 := Scalar.cmpi .eq c4_i32_86 c0_i32_87
  let c1_i32_88 : BitVec 32 := 1#32
  let v122 : BitVec 32 := Scalar.select v121 c1_i32_88 c4_i32_86
  let v123 : BitVec 32 := Scalar.remsi v120 v122
  let c0_i32_90 : BitVec 32 := 0#32
  let v125 : BitVec 1 := Scalar.cmpi .slt v123 c0_i32_90
  let c0_i32_91 : BitVec 32 := 0#32
  let v126 : BitVec 1 := Scalar.cmpi .slt v122 c0_i32_91
  let v127 : BitVec 1 := Scalar.xori v125 v126
  let c0_i32_89 : BitVec 32 := 0#32
  let v124 : BitVec 1 := Scalar.cmpi .ne v123 c0_i32_89
  let v128 : BitVec 1 := Scalar.andi v127 v124
  let v129 : BitVec 32 := Scalar.addi v123 v122
  let v130 : BitVec 32 := Scalar.select v128 v129 v123
  let c1_i32_97 : BitVec 32 := 1#32
  let v132 : BitVec 32 := Scalar.muli v130 c1_i32_97
  let v133 : BitVec 32 := Scalar.addi c0_i32_98 v132
  v133.toNat
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_85 : BitVec 32 := 2#32
  let v120 : BitVec 32 := Scalar.addi v2 c2_i32_85
  let c4_i32_86 : BitVec 32 := 4#32
  let c0_i32_87 : BitVec 32 := 0#32
  let v121 : BitVec 1 := Scalar.cmpi .eq c4_i32_86 c0_i32_87
  let c1_i32_88 : BitVec 32 := 1#32
  let v122 : BitVec 32 := Scalar.select v121 c1_i32_88 c4_i32_86
  let v123 : BitVec 32 := Scalar.remsi v120 v122
  let c0_i32_90 : BitVec 32 := 0#32
  let v125 : BitVec 1 := Scalar.cmpi .slt v123 c0_i32_90
  let c0_i32_91 : BitVec 32 := 0#32
  let v126 : BitVec 1 := Scalar.cmpi .slt v122 c0_i32_91
  let v127 : BitVec 1 := Scalar.xori v125 v126
  let c0_i32_89 : BitVec 32 := 0#32
  let v124 : BitVec 1 := Scalar.cmpi .ne v123 c0_i32_89
  let v128 : BitVec 1 := Scalar.andi v127 v124
  let v129 : BitVec 32 := Scalar.addi v123 v122
  let v130 : BitVec 32 := Scalar.select v128 v129 v123
  let c1_i32_108 : BitVec 32 := 1#32
  let v141 : BitVec 32 := Scalar.muli v130 c1_i32_108
  let v142 : BitVec 32 := Scalar.addi c0_i32_109 v141
  v142.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_114 : BitVec 32 := 3#32
  let v149 : BitVec 32 := Scalar.addi v2 c3_i32_114
  let c4_i32_115 : BitVec 32 := 4#32
  let c0_i32_116 : BitVec 32 := 0#32
  let v150 : BitVec 1 := Scalar.cmpi .eq c4_i32_115 c0_i32_116
  let c1_i32_117 : BitVec 32 := 1#32
  let v151 : BitVec 32 := Scalar.select v150 c1_i32_117 c4_i32_115
  let v152 : BitVec 32 := Scalar.remsi v149 v151
  let c0_i32_119 : BitVec 32 := 0#32
  let v154 : BitVec 1 := Scalar.cmpi .slt v152 c0_i32_119
  let c0_i32_120 : BitVec 32 := 0#32
  let v155 : BitVec 1 := Scalar.cmpi .slt v151 c0_i32_120
  let v156 : BitVec 1 := Scalar.xori v154 v155
  let c0_i32_118 : BitVec 32 := 0#32
  let v153 : BitVec 1 := Scalar.cmpi .ne v152 c0_i32_118
  let v157 : BitVec 1 := Scalar.andi v156 v153
  let v158 : BitVec 32 := Scalar.addi v152 v151
  let v159 : BitVec 32 := Scalar.select v157 v158 v152
  let c1_i32_126 : BitVec 32 := 1#32
  let v161 : BitVec 32 := Scalar.muli v159 c1_i32_126
  let v162 : BitVec 32 := Scalar.addi c0_i32_127 v161
  v162.toNat
def k0_dev9 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_114 : BitVec 32 := 3#32
  let v149 : BitVec 32 := Scalar.addi v2 c3_i32_114
  let c4_i32_115 : BitVec 32 := 4#32
  let c0_i32_116 : BitVec 32 := 0#32
  let v150 : BitVec 1 := Scalar.cmpi .eq c4_i32_115 c0_i32_116
  let c1_i32_117 : BitVec 32 := 1#32
  let v151 : BitVec 32 := Scalar.select v150 c1_i32_117 c4_i32_115
  let v152 : BitVec 32 := Scalar.remsi v149 v151
  let c0_i32_119 : BitVec 32 := 0#32
  let v154 : BitVec 1 := Scalar.cmpi .slt v152 c0_i32_119
  let c0_i32_120 : BitVec 32 := 0#32
  let v155 : BitVec 1 := Scalar.cmpi .slt v151 c0_i32_120
  let v156 : BitVec 1 := Scalar.xori v154 v155
  let c0_i32_118 : BitVec 32 := 0#32
  let v153 : BitVec 1 := Scalar.cmpi .ne v152 c0_i32_118
  let v157 : BitVec 1 := Scalar.andi v156 v153
  let v158 : BitVec 32 := Scalar.addi v152 v151
  let v159 : BitVec 32 := Scalar.select v157 v158 v152
  let c1_i32_137 : BitVec 32 := 1#32
  let v170 : BitVec 32 := Scalar.muli v159 c1_i32_137
  let v171 : BitVec 32 := Scalar.addi c0_i32_138 v170
  v171.toNat
def k0_dev10 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v178 : BitVec 32 := Scalar.addi v2 c1_i32_143
  let c4_i32_144 : BitVec 32 := 4#32
  let c0_i32_145 : BitVec 32 := 0#32
  let v179 : BitVec 1 := Scalar.cmpi .eq c4_i32_144 c0_i32_145
  let c1_i32_146 : BitVec 32 := 1#32
  let v180 : BitVec 32 := Scalar.select v179 c1_i32_146 c4_i32_144
  let v181 : BitVec 32 := Scalar.remsi v178 v180
  let c0_i32_148 : BitVec 32 := 0#32
  let v183 : BitVec 1 := Scalar.cmpi .slt v181 c0_i32_148
  let c0_i32_149 : BitVec 32 := 0#32
  let v184 : BitVec 1 := Scalar.cmpi .slt v180 c0_i32_149
  let v185 : BitVec 1 := Scalar.xori v183 v184
  let c0_i32_147 : BitVec 32 := 0#32
  let v182 : BitVec 1 := Scalar.cmpi .ne v181 c0_i32_147
  let v186 : BitVec 1 := Scalar.andi v185 v182
  let v187 : BitVec 32 := Scalar.addi v181 v180
  let v188 : BitVec 32 := Scalar.select v186 v187 v181
  let c1_i32_155 : BitVec 32 := 1#32
  let v190 : BitVec 32 := Scalar.muli v188 c1_i32_155
  let v191 : BitVec 32 := Scalar.addi c0_i32_156 v190
  v191.toNat
def k0_dev11 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v178 : BitVec 32 := Scalar.addi v2 c1_i32_143
  let c4_i32_144 : BitVec 32 := 4#32
  let c0_i32_145 : BitVec 32 := 0#32
  let v179 : BitVec 1 := Scalar.cmpi .eq c4_i32_144 c0_i32_145
  let c1_i32_146 : BitVec 32 := 1#32
  let v180 : BitVec 32 := Scalar.select v179 c1_i32_146 c4_i32_144
  let v181 : BitVec 32 := Scalar.remsi v178 v180
  let c0_i32_148 : BitVec 32 := 0#32
  let v183 : BitVec 1 := Scalar.cmpi .slt v181 c0_i32_148
  let c0_i32_149 : BitVec 32 := 0#32
  let v184 : BitVec 1 := Scalar.cmpi .slt v180 c0_i32_149
  let v185 : BitVec 1 := Scalar.xori v183 v184
  let c0_i32_147 : BitVec 32 := 0#32
  let v182 : BitVec 1 := Scalar.cmpi .ne v181 c0_i32_147
  let v186 : BitVec 1 := Scalar.andi v185 v182
  let v187 : BitVec 32 := Scalar.addi v181 v180
  let v188 : BitVec 32 := Scalar.select v186 v187 v181
  let c1_i32_166 : BitVec 32 := 1#32
  let v199 : BitVec 32 := Scalar.muli v188 c1_i32_166
  let v200 : BitVec 32 := Scalar.addi c0_i32_167 v199
  v200.toNat
def k0_dev12 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_172 : BitVec 32 := 2#32
  let v207 : BitVec 32 := Scalar.addi v2 c2_i32_172
  let c4_i32_173 : BitVec 32 := 4#32
  let c0_i32_174 : BitVec 32 := 0#32
  let v208 : BitVec 1 := Scalar.cmpi .eq c4_i32_173 c0_i32_174
  let c1_i32_175 : BitVec 32 := 1#32
  let v209 : BitVec 32 := Scalar.select v208 c1_i32_175 c4_i32_173
  let v210 : BitVec 32 := Scalar.remsi v207 v209
  let c0_i32_177 : BitVec 32 := 0#32
  let v212 : BitVec 1 := Scalar.cmpi .slt v210 c0_i32_177
  let c0_i32_178 : BitVec 32 := 0#32
  let v213 : BitVec 1 := Scalar.cmpi .slt v209 c0_i32_178
  let v214 : BitVec 1 := Scalar.xori v212 v213
  let c0_i32_176 : BitVec 32 := 0#32
  let v211 : BitVec 1 := Scalar.cmpi .ne v210 c0_i32_176
  let v215 : BitVec 1 := Scalar.andi v214 v211
  let v216 : BitVec 32 := Scalar.addi v210 v209
  let v217 : BitVec 32 := Scalar.select v215 v216 v210
  let c1_i32_184 : BitVec 32 := 1#32
  let v219 : BitVec 32 := Scalar.muli v217 c1_i32_184
  let v220 : BitVec 32 := Scalar.addi c0_i32_185 v219
  v220.toNat
def k0_dev13 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_172 : BitVec 32 := 2#32
  let v207 : BitVec 32 := Scalar.addi v2 c2_i32_172
  let c4_i32_173 : BitVec 32 := 4#32
  let c0_i32_174 : BitVec 32 := 0#32
  let v208 : BitVec 1 := Scalar.cmpi .eq c4_i32_173 c0_i32_174
  let c1_i32_175 : BitVec 32 := 1#32
  let v209 : BitVec 32 := Scalar.select v208 c1_i32_175 c4_i32_173
  let v210 : BitVec 32 := Scalar.remsi v207 v209
  let c0_i32_177 : BitVec 32 := 0#32
  let v212 : BitVec 1 := Scalar.cmpi .slt v210 c0_i32_177
  let c0_i32_178 : BitVec 32 := 0#32
  let v213 : BitVec 1 := Scalar.cmpi .slt v209 c0_i32_178
  let v214 : BitVec 1 := Scalar.xori v212 v213
  let c0_i32_176 : BitVec 32 := 0#32
  let v211 : BitVec 1 := Scalar.cmpi .ne v210 c0_i32_176
  let v215 : BitVec 1 := Scalar.andi v214 v211
  let v216 : BitVec 32 := Scalar.addi v210 v209
  let v217 : BitVec 32 := Scalar.select v215 v216 v210
  let c1_i32_195 : BitVec 32 := 1#32
  let v228 : BitVec 32 := Scalar.muli v217 c1_i32_195
  let v229 : BitVec 32 := Scalar.addi c0_i32_196 v228
  v229.toNat
def k0_dev14 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_201 : BitVec 32 := 3#32
  let v236 : BitVec 32 := Scalar.addi v2 c3_i32_201
  let c4_i32_202 : BitVec 32 := 4#32
  let c0_i32_203 : BitVec 32 := 0#32
  let v237 : BitVec 1 := Scalar.cmpi .eq c4_i32_202 c0_i32_203
  let c1_i32_204 : BitVec 32 := 1#32
  let v238 : BitVec 32 := Scalar.select v237 c1_i32_204 c4_i32_202
  let v239 : BitVec 32 := Scalar.remsi v236 v238
  let c0_i32_206 : BitVec 32 := 0#32
  let v241 : BitVec 1 := Scalar.cmpi .slt v239 c0_i32_206
  let c0_i32_207 : BitVec 32 := 0#32
  let v242 : BitVec 1 := Scalar.cmpi .slt v238 c0_i32_207
  let v243 : BitVec 1 := Scalar.xori v241 v242
  let c0_i32_205 : BitVec 32 := 0#32
  let v240 : BitVec 1 := Scalar.cmpi .ne v239 c0_i32_205
  let v244 : BitVec 1 := Scalar.andi v243 v240
  let v245 : BitVec 32 := Scalar.addi v239 v238
  let v246 : BitVec 32 := Scalar.select v244 v245 v239
  let c1_i32_213 : BitVec 32 := 1#32
  let v248 : BitVec 32 := Scalar.muli v246 c1_i32_213
  let v249 : BitVec 32 := Scalar.addi c0_i32_214 v248
  v249.toNat
def k0_dev15 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_201 : BitVec 32 := 3#32
  let v236 : BitVec 32 := Scalar.addi v2 c3_i32_201
  let c4_i32_202 : BitVec 32 := 4#32
  let c0_i32_203 : BitVec 32 := 0#32
  let v237 : BitVec 1 := Scalar.cmpi .eq c4_i32_202 c0_i32_203
  let c1_i32_204 : BitVec 32 := 1#32
  let v238 : BitVec 32 := Scalar.select v237 c1_i32_204 c4_i32_202
  let v239 : BitVec 32 := Scalar.remsi v236 v238
  let c0_i32_206 : BitVec 32 := 0#32
  let v241 : BitVec 1 := Scalar.cmpi .slt v239 c0_i32_206
  let c0_i32_207 : BitVec 32 := 0#32
  let v242 : BitVec 1 := Scalar.cmpi .slt v238 c0_i32_207
  let v243 : BitVec 1 := Scalar.xori v241 v242
  let c0_i32_205 : BitVec 32 := 0#32
  let v240 : BitVec 1 := Scalar.cmpi .ne v239 c0_i32_205
  let v244 : BitVec 1 := Scalar.andi v243 v240
  let v245 : BitVec 32 := Scalar.addi v239 v238
  let v246 : BitVec 32 := Scalar.select v244 v245 v239
  let c1_i32_224 : BitVec 32 := 1#32
  let v257 : BitVec 32 := Scalar.muli v246 c1_i32_224
  let v258 : BitVec 32 := Scalar.addi c0_i32_225 v257
  v258.toNat
def k0_dev16 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_230 : BitVec 32 := 1#32
  let v265 : BitVec 32 := Scalar.addi v2 c1_i32_230
  let c4_i32_231 : BitVec 32 := 4#32
  let c0_i32_232 : BitVec 32 := 0#32
  let v266 : BitVec 1 := Scalar.cmpi .eq c4_i32_231 c0_i32_232
  let c1_i32_233 : BitVec 32 := 1#32
  let v267 : BitVec 32 := Scalar.select v266 c1_i32_233 c4_i32_231
  let v268 : BitVec 32 := Scalar.remsi v265 v267
  let c0_i32_235 : BitVec 32 := 0#32
  let v270 : BitVec 1 := Scalar.cmpi .slt v268 c0_i32_235
  let c0_i32_236 : BitVec 32 := 0#32
  let v271 : BitVec 1 := Scalar.cmpi .slt v267 c0_i32_236
  let v272 : BitVec 1 := Scalar.xori v270 v271
  let c0_i32_234 : BitVec 32 := 0#32
  let v269 : BitVec 1 := Scalar.cmpi .ne v268 c0_i32_234
  let v273 : BitVec 1 := Scalar.andi v272 v269
  let v274 : BitVec 32 := Scalar.addi v268 v267
  let v275 : BitVec 32 := Scalar.select v273 v274 v268
  let c1_i32_242 : BitVec 32 := 1#32
  let v277 : BitVec 32 := Scalar.muli v275 c1_i32_242
  let v278 : BitVec 32 := Scalar.addi c0_i32_243 v277
  v278.toNat
def k0_dev17 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_230 : BitVec 32 := 1#32
  let v265 : BitVec 32 := Scalar.addi v2 c1_i32_230
  let c4_i32_231 : BitVec 32 := 4#32
  let c0_i32_232 : BitVec 32 := 0#32
  let v266 : BitVec 1 := Scalar.cmpi .eq c4_i32_231 c0_i32_232
  let c1_i32_233 : BitVec 32 := 1#32
  let v267 : BitVec 32 := Scalar.select v266 c1_i32_233 c4_i32_231
  let v268 : BitVec 32 := Scalar.remsi v265 v267
  let c0_i32_235 : BitVec 32 := 0#32
  let v270 : BitVec 1 := Scalar.cmpi .slt v268 c0_i32_235
  let c0_i32_236 : BitVec 32 := 0#32
  let v271 : BitVec 1 := Scalar.cmpi .slt v267 c0_i32_236
  let v272 : BitVec 1 := Scalar.xori v270 v271
  let c0_i32_234 : BitVec 32 := 0#32
  let v269 : BitVec 1 := Scalar.cmpi .ne v268 c0_i32_234
  let v273 : BitVec 1 := Scalar.andi v272 v269
  let v274 : BitVec 32 := Scalar.addi v268 v267
  let v275 : BitVec 32 := Scalar.select v273 v274 v268
  let c1_i32_252 : BitVec 32 := 1#32
  let v286 : BitVec 32 := Scalar.muli v275 c1_i32_252
  let v287 : BitVec 32 := Scalar.addi c0_i32_253 v286
  v287.toNat
def k0_dev18 (d0 : Dev nD) : Nat :=
  let c0_i32_271 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_258 : BitVec 32 := 2#32
  let v294 : BitVec 32 := Scalar.addi v2 c2_i32_258
  let c4_i32_259 : BitVec 32 := 4#32
  let c0_i32_260 : BitVec 32 := 0#32
  let v295 : BitVec 1 := Scalar.cmpi .eq c4_i32_259 c0_i32_260
  let c1_i32_261 : BitVec 32 := 1#32
  let v296 : BitVec 32 := Scalar.select v295 c1_i32_261 c4_i32_259
  let v297 : BitVec 32 := Scalar.remsi v294 v296
  let c0_i32_263 : BitVec 32 := 0#32
  let v299 : BitVec 1 := Scalar.cmpi .slt v297 c0_i32_263
  let c0_i32_264 : BitVec 32 := 0#32
  let v300 : BitVec 1 := Scalar.cmpi .slt v296 c0_i32_264
  let v301 : BitVec 1 := Scalar.xori v299 v300
  let c0_i32_262 : BitVec 32 := 0#32
  let v298 : BitVec 1 := Scalar.cmpi .ne v297 c0_i32_262
  let v302 : BitVec 1 := Scalar.andi v301 v298
  let v303 : BitVec 32 := Scalar.addi v297 v296
  let v304 : BitVec 32 := Scalar.select v302 v303 v297
  let c1_i32_270 : BitVec 32 := 1#32
  let v306 : BitVec 32 := Scalar.muli v304 c1_i32_270
  let v307 : BitVec 32 := Scalar.addi c0_i32_271 v306
  v307.toNat
def k0_dev19 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_258 : BitVec 32 := 2#32
  let v294 : BitVec 32 := Scalar.addi v2 c2_i32_258
  let c4_i32_259 : BitVec 32 := 4#32
  let c0_i32_260 : BitVec 32 := 0#32
  let v295 : BitVec 1 := Scalar.cmpi .eq c4_i32_259 c0_i32_260
  let c1_i32_261 : BitVec 32 := 1#32
  let v296 : BitVec 32 := Scalar.select v295 c1_i32_261 c4_i32_259
  let v297 : BitVec 32 := Scalar.remsi v294 v296
  let c0_i32_263 : BitVec 32 := 0#32
  let v299 : BitVec 1 := Scalar.cmpi .slt v297 c0_i32_263
  let c0_i32_264 : BitVec 32 := 0#32
  let v300 : BitVec 1 := Scalar.cmpi .slt v296 c0_i32_264
  let v301 : BitVec 1 := Scalar.xori v299 v300
  let c0_i32_262 : BitVec 32 := 0#32
  let v298 : BitVec 1 := Scalar.cmpi .ne v297 c0_i32_262
  let v302 : BitVec 1 := Scalar.andi v301 v298
  let v303 : BitVec 32 := Scalar.addi v297 v296
  let v304 : BitVec 32 := Scalar.select v302 v303 v297
  let c1_i32_281 : BitVec 32 := 1#32
  let v315 : BitVec 32 := Scalar.muli v304 c1_i32_281
  let v316 : BitVec 32 := Scalar.addi c0_i32_282 v315
  v316.toNat
def k0_dev20 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_287 : BitVec 32 := 3#32
  let v323 : BitVec 32 := Scalar.addi v2 c3_i32_287
  let c4_i32_288 : BitVec 32 := 4#32
  let c0_i32_289 : BitVec 32 := 0#32
  let v324 : BitVec 1 := Scalar.cmpi .eq c4_i32_288 c0_i32_289
  let c1_i32_290 : BitVec 32 := 1#32
  let v325 : BitVec 32 := Scalar.select v324 c1_i32_290 c4_i32_288
  let v326 : BitVec 32 := Scalar.remsi v323 v325
  let c0_i32_292 : BitVec 32 := 0#32
  let v328 : BitVec 1 := Scalar.cmpi .slt v326 c0_i32_292
  let c0_i32_293 : BitVec 32 := 0#32
  let v329 : BitVec 1 := Scalar.cmpi .slt v325 c0_i32_293
  let v330 : BitVec 1 := Scalar.xori v328 v329
  let c0_i32_291 : BitVec 32 := 0#32
  let v327 : BitVec 1 := Scalar.cmpi .ne v326 c0_i32_291
  let v331 : BitVec 1 := Scalar.andi v330 v327
  let v332 : BitVec 32 := Scalar.addi v326 v325
  let v333 : BitVec 32 := Scalar.select v331 v332 v326
  let c1_i32_299 : BitVec 32 := 1#32
  let v335 : BitVec 32 := Scalar.muli v333 c1_i32_299
  let v336 : BitVec 32 := Scalar.addi c0_i32_300 v335
  v336.toNat
def k0_dev21 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_287 : BitVec 32 := 3#32
  let v323 : BitVec 32 := Scalar.addi v2 c3_i32_287
  let c4_i32_288 : BitVec 32 := 4#32
  let c0_i32_289 : BitVec 32 := 0#32
  let v324 : BitVec 1 := Scalar.cmpi .eq c4_i32_288 c0_i32_289
  let c1_i32_290 : BitVec 32 := 1#32
  let v325 : BitVec 32 := Scalar.select v324 c1_i32_290 c4_i32_288
  let v326 : BitVec 32 := Scalar.remsi v323 v325
  let c0_i32_292 : BitVec 32 := 0#32
  let v328 : BitVec 1 := Scalar.cmpi .slt v326 c0_i32_292
  let c0_i32_293 : BitVec 32 := 0#32
  let v329 : BitVec 1 := Scalar.cmpi .slt v325 c0_i32_293
  let v330 : BitVec 1 := Scalar.xori v328 v329
  let c0_i32_291 : BitVec 32 := 0#32
  let v327 : BitVec 1 := Scalar.cmpi .ne v326 c0_i32_291
  let v331 : BitVec 1 := Scalar.andi v330 v327
  let v332 : BitVec 32 := Scalar.addi v326 v325
  let v333 : BitVec 32 := Scalar.select v331 v332 v326
  let c1_i32_310 : BitVec 32 := 1#32
  let v344 : BitVec 32 := Scalar.muli v333 c1_i32_310
  let v345 : BitVec 32 := Scalar.addi c0_i32_311 v344
  v345.toNat
def k0_off5 (d0 : Dev nD) (c0_i32_325 : BitVec 32) (c1_i32_318 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v354 : BitVec 32 := Scalar.subi v2 c1_i32_318
  let c4_i32_319 : BitVec 32 := 4#32
  let c0_i32_320 : BitVec 32 := 0#32
  let v355 : BitVec 1 := Scalar.cmpi .eq c4_i32_319 c0_i32_320
  let c1_i32_321 : BitVec 32 := 1#32
  let v356 : BitVec 32 := Scalar.select v355 c1_i32_321 c4_i32_319
  let v357 : BitVec 32 := Scalar.remsi v354 v356
  let c0_i32_323 : BitVec 32 := 0#32
  let v359 : BitVec 1 := Scalar.cmpi .slt v357 c0_i32_323
  let c0_i32_324 : BitVec 32 := 0#32
  let v360 : BitVec 1 := Scalar.cmpi .slt v356 c0_i32_324
  let v361 : BitVec 1 := Scalar.xori v359 v360
  let c0_i32_322 : BitVec 32 := 0#32
  let v358 : BitVec 1 := Scalar.cmpi .ne v357 c0_i32_322
  let v362 : BitVec 1 := Scalar.andi v361 v358
  let v363 : BitVec 32 := Scalar.addi v357 v356
  let v364 : BitVec 32 := Scalar.select v362 v363 v357
  let v365 : BitVec 32 := Scalar.addi c0_i32_325 v364
  let c0_i32_332 : BitVec 32 := 0#32
  let c0_i32_333 : BitVec 32 := 0#32
  ![v365.toNat, 0, 0]
def k0_off6 (d0 : Dev nD) (c0_i32_343 : BitVec 32) (c1_i32_336 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v372 : BitVec 32 := Scalar.subi v2 c1_i32_336
  let c4_i32_337 : BitVec 32 := 4#32
  let c0_i32_338 : BitVec 32 := 0#32
  let v373 : BitVec 1 := Scalar.cmpi .eq c4_i32_337 c0_i32_338
  let c1_i32_339 : BitVec 32 := 1#32
  let v374 : BitVec 32 := Scalar.select v373 c1_i32_339 c4_i32_337
  let v375 : BitVec 32 := Scalar.remsi v372 v374
  let c0_i32_341 : BitVec 32 := 0#32
  let v377 : BitVec 1 := Scalar.cmpi .slt v375 c0_i32_341
  let c0_i32_342 : BitVec 32 := 0#32
  let v378 : BitVec 1 := Scalar.cmpi .slt v374 c0_i32_342
  let v379 : BitVec 1 := Scalar.xori v377 v378
  let c0_i32_340 : BitVec 32 := 0#32
  let v376 : BitVec 1 := Scalar.cmpi .ne v375 c0_i32_340
  let v380 : BitVec 1 := Scalar.andi v379 v376
  let v381 : BitVec 32 := Scalar.addi v375 v374
  let v382 : BitVec 32 := Scalar.select v380 v381 v375
  let v383 : BitVec 32 := Scalar.addi c0_i32_343 v382
  let c0_i32_350 : BitVec 32 := 0#32
  let c0_i32_351 : BitVec 32 := 0#32
  ![v383.toNat, 0, 0]
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x128 : Shape := ⟨2, ![512, 128]⟩
abbrev S128x1024 : Shape := ⟨2, ![128, 1024]⟩
abbrev S1024x128 : Shape := ⟨2, ![1024, 128]⟩
abbrev S512x1024 : Shape := ⟨2, ![512, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x128, .bf16⟩
  | .hbm, ⟨1, _⟩ => ⟨S128x1024, .bf16⟩
  | .hbm, ⟨2, _⟩ => ⟨S128x1024, .bf16⟩
  | .hbm, ⟨3, _⟩ => ⟨S128x1024, .bf16⟩
  | .hbm, ⟨4, _⟩ => ⟨S1024x128, .bf16⟩
  | .hbm, ⟨5, _⟩ => ⟨S1024x128, .bf16⟩
  | .hbm, ⟨6, _⟩ => ⟨S1024x128, .bf16⟩
  | .hbm, ⟨7, _⟩ => ⟨S512x1024, .f32⟩
  | .hbm, ⟨8, _⟩ => ⟨S512x1024, .bf16⟩
  | .hbm, ⟨9, _⟩ => ⟨S_, .bf16⟩
  | .hbm, ⟨10, _⟩ => ⟨S512x1024, .bf16⟩
  | .hbm, ⟨11, _⟩ => ⟨S512x1024, .bf16⟩
  | .hbm, ⟨12, _⟩ => ⟨S512x128, .f32⟩
  | .hbm, ⟨13, _⟩ => ⟨S512x128, .bf16⟩
  | .hbm, ⟨14, _⟩ => ⟨S512x1024, .f32⟩
  | .hbm, ⟨15, _⟩ => ⟨S512x1024, .bf16⟩
  | .hbm, ⟨16, _⟩ => ⟨S_, .bf16⟩
  | .hbm, ⟨17, _⟩ => ⟨S512x1024, .bf16⟩
  | .hbm, ⟨18, _⟩ => ⟨S512x1024, .bf16⟩
  | .hbm, ⟨19, _⟩ => ⟨S512x128, .f32⟩
  | .hbm, ⟨20, _⟩ => ⟨S512x128, .bf16⟩
  | .hbm, ⟨21, _⟩ => ⟨S512x1024, .f32⟩
  | .hbm, ⟨22, _⟩ => ⟨S512x1024, .bf16⟩
  | .hbm, ⟨23, _⟩ => ⟨S_, .bf16⟩
  | .hbm, ⟨24, _⟩ => ⟨S512x1024, .bf16⟩
  | .hbm, ⟨25, _⟩ => ⟨S512x1024, .bf16⟩
  | .hbm, ⟨26, _⟩ => ⟨S512x128, .f32⟩
  | .hbm, ⟨27, _⟩ => ⟨S512x128, .bf16⟩
  | .hbm, ⟨28, _⟩ => ⟨S512x128, .f32⟩
  | _, _ => ⟨S512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Layout.lean ====
/-
# Layout: devices, transfers, semaphores, slots and the gathered contents

Every device holds, for each of three layers, one block `Win` (128×256) and one block `Wout` (256×128). The kernel
gathers the four devices' blocks of all layers into two buffers of twelve rows, row `4 l + d` being layer `l`'s block of
device `d`. This module names the pieces:

* `peer c o` — the device at distance `o + 1` after `c` on the ring of four;
* `Step = (l, o, k)` — the transfer of layer `l`'s block of kind `k` (0: `Win`, 1: `Wout`) to the device at distance
  `o + 1`; the kernel starts the eighteen transfers in the order of `num`;
* `sendS s`, `recvS s` — the two semaphores transfer `s` completes on, at its source and at its destination;
* `wiRow r`, `woRow r` — row `r` of the two gather buffers;
* `gathI`, `gathO` — what the two buffers hold, on every device, once everything has arrived.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

set_option backward.proofsInPublic true in
/-- The device at distance `o + 1` after `c`. -/
def peer (c : Dev nD) (o : Fin 3) : Dev nD := ⟨(c.val + o.val + 1) % 4, Nat.mod_lt _ (by decide)⟩

/-- Distance `o + 1` forward is distance `3 - o` back. -/
theorem peer_rev (c : Dev nD) (o : Fin 3) : peer (peer c o) o.rev = c := by revert c o; decide
theorem peer_rev' (c : Dev nD) (o : Fin 3) : peer (peer c o.rev) o = c := by revert c o; decide
theorem peer_ne (c : Dev nD) (o : Fin 3) : peer c o ≠ c := by revert c o; decide

/-- The devices at one distance are all devices. -/
def ring (o : Fin 3) : Dev nD ≃ Dev nD := ⟨fun c => peer c o, fun c => peer c o.rev, fun c => peer_rev c o, fun c => peer_rev' c o⟩

/-- Every device is `c` or the source of one of the three transfers of a block onto `c`. -/
theorem self_or_source (c d : Dev nD) : d = c ∨ ∃ o : Fin 3, d = peer c o.rev := by revert c d; decide

/-! ## The transfers and their semaphores -/

/-- Layer, distance minus one, kind. -/
abbrev Step : Type := Fin 3 × Fin 3 × Fin 2

/-- The place of a transfer in the kernel's order. -/
def num (s : Step) : ℕ := 6 * s.1.val + 2 * s.2.1.val + s.2.2.val

theorem num_injective : Function.Injective num := by decide
theorem num_lt (s : Step) : num s < 18 := by revert s; decide

/-- The place of a transfer's cell in a semaphore array of six rows (layer and kind) and three columns (distance). -/
def enc (s : Step) : ℕ := 3 * (2 * s.1.val + s.2.2.val) + s.2.1.val
set_option backward.proofsInPublic true in
def dec (e : ℕ) : Step := (⟨e / 6 % 3, Nat.mod_lt _ (by decide)⟩, ⟨e % 3, Nat.mod_lt _ (by decide)⟩, ⟨e / 3 % 2, Nat.mod_lt _ (by decide)⟩)
theorem dec_enc (s : Step) : dec (enc s) = s := by revert s; decide
theorem enc_lt (s : Step) : enc s < 18 := by revert s; decide

set_option backward.proofsInPublic true in
/-- The semaphore transfer `s` raises at its source, -/
def sendS (s : Step) : DmaSem sig := ⟨8 + enc s, lt_of_lt_of_le (Nat.add_lt_add_left (enc_lt s) 8) (by decide)⟩
set_option backward.proofsInPublic true in
/-- and the one it raises at its destination. -/
def recvS (s : Step) : DmaSem sig := ⟨26 + enc s, lt_of_lt_of_le (Nat.add_lt_add_left (enc_lt s) 26) (by decide)⟩

/-- The barrier semaphore the devices meet on before the first transfer. -/
abbrev barS : Sem sig := (SemArray.scalar (sig.barrier 0 rfl) : Sems sig S_).sem

abbrev barCell (c : Dev nD) : GSem nD τ sig := ((c : Thread nD τ), .reg barS)
abbrev sendCell (c : Dev nD) (s : Step) : GSem nD τ sig := ((c : Thread nD τ), .dma (sendS s))
abbrev recvCell (c : Dev nD) (s : Step) : GSem nD τ sig := ((c : Thread nD τ), .dma (recvS s))

/-! ## The slots -/

abbrev wiM : Memref sig .tc .vmem S12x128x256 .bf16 := Memref.whole cc0_scratch0
abbrev woM : Memref sig .tc .vmem S12x256x128 .bf16 := Memref.whole cc0_scratch1

set_option backward.proofsInPublic true in
/-- The row of layer `l`'s block of device `d`. -/
def row (l : Fin 3) (d : Dev nD) : Fin 12 := ⟨4 * l.val + d.val, by have := l.isLt; have := d.isLt; simp only [nD] at *; omega⟩

theorem inbI (r : Fin 12) : ∀ a, (![r.val, 0, 0] : Fin 3 → ℕ) a + S1x128x256.size a ≤ S12x128x256.size a := by revert r; decide
theorem inbO (r : Fin 12) : ∀ a, (![r.val, 0, 0] : Fin 3 → ℕ) a + S1x256x128.size a ≤ S12x256x128.size a := by revert r; decide

abbrev rectI (r : Fin 12) : Rect S12x128x256 := Rect.unit (s := S12x128x256) ![r.val, 0, 0] S1x128x256.size (inbI r)
abbrev rectO (r : Fin 12) : Rect S12x256x128 := Rect.unit (s := S12x256x128) ![r.val, 0, 0] S1x256x128.size (inbO r)

/-- Row `r` of the `Win` gather buffer, and of the `Wout` one. -/
abbrev wiRow (r : Fin 12) : Memref sig .tc .vmem S1x128x256 .bf16 := wiM.slice (rectI r) (fun _ => rfl)
abbrev woRow (r : Fin 12) : Memref sig .tc .vmem S1x256x128 .bf16 := woM.slice (rectO r) (fun _ => rfl)

/-- An element of a gather buffer lies in row `r` when its first coordinate is `r`. -/
theorem mem_rowI (r : Fin 12) (i : (cc0_scratch0 : Ref sig .tc).ty.Idx) : i ∈ (wiRow r).view.set ↔ (i (0 : Fin 3)).val = r.val := by
  rw [show (wiRow r).view.set = (rectI r).set from View.set_slice_whole cc0_scratch0 (rectI r), Rect.mem_set_unit]
  constructor
  · intro h; have := h 0; simp only [Matrix.cons_val_zero] at this
    have h1 : S1x128x256.size 0 = 1 := rfl
    omega
  · intro h a
    have := (i a).isLt
    fin_cases a
    · refine ⟨le_of_eq h.symm, ?_⟩
      show (i (0 : Fin 3)).val < r.val + 1
      omega
    · exact ⟨Nat.zero_le _, by show _ < 0 + 128; rw [Nat.zero_add]; exact this⟩
    · exact ⟨Nat.zero_le _, by show _ < 0 + 256; rw [Nat.zero_add]; exact this⟩
theorem mem_rowO (r : Fin 12) (i : (cc0_scratch1 : Ref sig .tc).ty.Idx) : i ∈ (woRow r).view.set ↔ (i (0 : Fin 3)).val = r.val := by
  rw [show (woRow r).view.set = (rectO r).set from View.set_slice_whole cc0_scratch1 (rectO r), Rect.mem_set_unit]
  constructor
  · intro h; have := h 0; simp only [Matrix.cons_val_zero] at this
    have h1 : S1x256x128.size 0 = 1 := rfl
    omega
  · intro h a
    have := (i a).isLt
    fin_cases a
    · refine ⟨le_of_eq h.symm, ?_⟩
      show (i (0 : Fin 3)).val < r.val + 1
      omega
    · exact ⟨Nat.zero_le _, by show _ < 0 + 256; rw [Nat.zero_add]; exact this⟩
    · exact ⟨Nat.zero_le _, by show _ < 0 + 128; rw [Nat.zero_add]; exact this⟩

/-! ## The contents -/

variable (m : (ℓ : Loc nD τ sig) → Buf (Elt F) ℓ)

/-- Device `c`'s block of `x`, as its staging buffer holds it. -/
def stX (c : Dev nD) : Vec F S128x128 .bf16 := (win0_0.blk (0 : Fin 1)).view.read (Elt F) (m ((c : Thread nD τ).loc main_arg0))
/-- Device `d`'s `Win` block of layer `l`, -/
def stI (l : Fin 3) (d : Dev nD) : Vec F S128x256 .bf16 := match l with
  | 0 => (win0_1.blk (0 : Fin 1)).view.read (Elt F) (m ((d : Thread nD τ).loc main_arg1))
  | 1 => (win0_3.blk (0 : Fin 1)).view.read (Elt F) (m ((d : Thread nD τ).loc main_arg2))
  | 2 => (win0_5.blk (0 : Fin 1)).view.read (Elt F) (m ((d : Thread nD τ).loc main_arg3))
/-- and its `Wout` block. -/
def stO (l : Fin 3) (d : Dev nD) : Vec F S256x128 .bf16 := match l with
  | 0 => (win0_2.blk (0 : Fin 1)).view.read (Elt F) (m ((d : Thread nD τ).loc main_arg4))
  | 1 => (win0_4.blk (0 : Fin 1)).view.read (Elt F) (m ((d : Thread nD τ).loc main_arg5))
  | 2 => (win0_6.blk (0 : Fin 1)).view.read (Elt F) (m ((d : Thread nD τ).loc main_arg6))

set_option backward.proofsInPublic true in
/-- The layer and the device a row belongs to. -/
def rowL (r : Fin 12) : Fin 3 := ⟨r.val / 4, by omega⟩
set_option backward.proofsInPublic true in
def rowD (r : Fin 12) : Dev nD := ⟨r.val % 4, Nat.mod_lt _ (by decide)⟩
theorem rowL_row (l : Fin 3) (d : Dev nD) : rowL (row l d) = l := by revert l d; decide
theorem rowD_row (l : Fin 3) (d : Dev nD) : rowD (row l d) = d := by revert l d; decide
theorem row_rowL (r : Fin 12) : row (rowL r) (rowD r) = r := by revert r; decide

/-- Row `r`'s contents: the block of the row's layer and device, one leading axis added. -/
def rowValI (r : Fin 12) : Vec F S1x128x256 .bf16 := k0_pay1 (stI m (rowL r) (rowD r))
def rowValO (r : Fin 12) : Vec F S1x256x128 .bf16 := k0_pay2 (stO m (rowL r) (rowD r))

/-- The `Win` gather buffer with every row arrived: each element as its own row's contents put it. -/
def gathI : (cc0_scratch0 : Ref sig .tc).ty.Contents (Elt F) := fun i =>
  (wiRow (i (0 : Fin 3))).view.write (Elt F) (m (((0 : Dev nD) : Thread nD τ).loc cc0_scratch0)) (rowValI m (i (0 : Fin 3))) Finset.univ i
/-- The `Wout` gather buffer with every row arrived. -/
def gathO : (cc0_scratch1 : Ref sig .tc).ty.Contents (Elt F) := fun i =>
  (woRow (i (0 : Fin 3))).view.write (Elt F) (m (((0 : Dev nD) : Thread nD τ).loc cc0_scratch1)) (rowValO m (i (0 : Fin 3))) Finset.univ i

theorem write_univ_at {κ : Kind} {sp : Space} {s : Shape} {e : EltTy} (v : View sig κ sp s e) (f g : v.ty.Contents (Elt F)) (w : s.Idx → Elt F e) {i} (h : i ∈ v.set) :
    v.write (Elt F) f w Finset.univ i = v.write (Elt F) g w Finset.univ i := by
  obtain ⟨x, -, rfl⟩ := Finset.mem_map.mp h
  rw [View.write_emb_of_mem _ _ (Finset.mem_univ x), View.write_emb_of_mem _ _ (Finset.mem_univ x)]

/-- Writing row `r`'s contents into row `r`, over anything, gives the gathered contents on that row. -/
theorem write_rowI (r : Fin 12) (f : (cc0_scratch0 : Ref sig .tc).ty.Contents (Elt F)) :
    ∀ i ∈ (wiRow r).view.set, (wiRow r).view.write (Elt F) f (rowValI m r) Finset.univ i = gathI m i := fun i hi => by
  have hr : i (0 : Fin 3) = r := Fin.ext ((mem_rowI r i).mp hi)
  unfold gathI; rw [hr]; exact write_univ_at _ _ _ _ hi
theorem write_rowO (r : Fin 12) (f : (cc0_scratch1 : Ref sig .tc).ty.Contents (Elt F)) :
    ∀ i ∈ (woRow r).view.set, (woRow r).view.write (Elt F) f (rowValO m r) Finset.univ i = gathO m i := fun i hi => by
  have hr : i (0 : Fin 3) = r := Fin.ext ((mem_rowO r i).mp hi)
  unfold gathO; rw [hr]; exact write_univ_at _ _ _ _ hi

/-- Reading row `r` of the gathered contents gives row `r`'s contents. -/
theorem read_rowI (r : Fin 12) : (wiRow r).view.read (Elt F) (gathI m) = rowValI m r :=
  (View.read_congr (v := (wiRow r).view) fun i hi => (write_rowI m r (gathI m) i hi).symm).trans (View.read_write_univ _ _)
theorem read_rowO (r : Fin 12) : (woRow r).view.read (Elt F) (gathO m) = rowValO m r :=
  (View.read_congr (v := (woRow r).view) fun i hi => (write_rowO m r (gathO m) i hi).symm).trans (View.read_write_univ _ _)

end Cert.GatherProof

end
-- ==== Proof.Schedule.lean ====
/-
# Schedule: who raises which semaphore, by how much, and what each raise hands over

* The BARRIER cell of device `d` receives one unit from each of the other three devices. The unit from the device at
  distance `j + 1` after `d` (duty `j`) hands `d` the slots on that device which `d`'s six transfers to it will fill.
* The SEND cell of transfer `s` on device `c` receives one block's credit when the block has left; it hands back the
  share of `c`'s own slot the transfer reads from.
* The RECEIVE cell of transfer `s` on device `c` receives one block's credit when the block has arrived; it hands `c`
  the slot it landed in, holding the block of the device it came from.

Everything happens in round 0 of each cell. The module also says what each device owes at launch, gives the levels that
order the waits, and defines the devices' starting resources.
-/
module

public import proofs.«01_k».proof.Proof.Layout

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the gather's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The slots as resources -/

/-- Device `t`'s slot of kind `k` at row `r`, held at share `q`, with the gathered contents. -/
def slot (k : Fin 2) (t : Dev nD) (r : Fin 12) (q : PosShare TreeShare) : sProp 𝕄 := match k with
  | 0 => ((wiRow r).view.loc (t : Thread nD τ) ↦[(wiRow r).view.set]{q} gathI m)
  | 1 => ((woRow r).view.loc (t : Thread nD τ) ↦[(woRow r).view.set]{q} gathO m)

/-- The same slot held outright, whatever it contains. -/
def slotAny (k : Fin 2) (t : Dev nD) (r : Fin 12) : sProp 𝕄 := match k with
  | 0 => iprop(∃ f, (wiRow r).view.loc (t : Thread nD τ) ↦[(wiRow r).view.set]{fullShare} f)
  | 1 => iprop(∃ f, (woRow r).view.loc (t : Thread nD τ) ↦[(woRow r).view.set]{fullShare} f)

instance slot_storable (k : Fin 2) (t : Dev nD) (r : Fin 12) (q) : BI.Storable (upEmb : UEmb _ 𝕄) (slot (F := F) m k t r q) := by
  unfold slot; split <;> infer_instance
instance slotAny_storable (k : Fin 2) (t : Dev nD) (r : Fin 12) : BI.Storable (upEmb : UEmb _ 𝕄) (slotAny (F := F) k t r) := by
  unfold slotAny; split <;> infer_instance

/-- The share of its own slot each of a block's three transfers reads with, and the share the device keeps. -/
def sh : Fin 3 → PosShare TreeShare
  | 0 => fullShare.left.left | 1 => fullShare.left.right | 2 => fullShare.right.left
abbrev keepSh : PosShare TreeShare := fullShare.right.right

/-- An own slot held outright is the three transfers' shares of it and the share kept. -/
theorem slot_split (k : Fin 2) (t : Dev nD) (r : Fin 12) :
    (slot m k t r fullShare : sProp 𝕄) = iprop((bigSep Finset.univ fun o : Fin 3 => slot m k t r (sh o)) ∗ slot m k t r keepSh) := by
  have h3 : (bigSep Finset.univ fun o : Fin 3 => (slot m k t r (sh o) : sProp 𝕄)) = iprop(slot m k t r (sh 0) ∗ slot m k t r (sh 1) ∗ slot m k t r (sh 2)) :=
    bigSep_univ_eq_bigSepL [0, 1, 2] (by decide) (by decide) _
  have hs (q : PosShare TreeShare) : (slot m k t r q : sProp 𝕄) ⊣⊢ iprop(slot m k t r q.left ∗ slot m k t r q.right) := by
    fin_cases k
    · exact pointsTo_share (PosShare.mem_left_op_right q)
    · exact pointsTo_share (PosShare.mem_left_op_right q)
  rw [h3]
  have h1 : (slot m k t r fullShare : sProp 𝕄) ⊢ iprop((slot m k t r (sh 0) ∗ slot m k t r (sh 1) ∗ slot m k t r (sh 2)) ∗ slot m k t r keepSh) := by
    iintro H
    ihave H := (hs fullShare).1 $$ H
    icases H with ⟨HL, HR⟩
    ihave HL := (hs fullShare.left).1 $$ HL
    ihave HR := (hs fullShare.right).1 $$ HR
    icases HL with ⟨H0, H1⟩
    icases HR with ⟨H2, H3⟩
    isplitr [H3]
    · isplitl [H0]; · iexact H0
      isplitl [H1]; · iexact H1
      iexact H2
    · iexact H3
  have h2 : iprop((slot m k t r (sh 0) ∗ slot m k t r (sh 1) ∗ slot m k t r (sh 2)) ∗ slot m k t r keepSh) ⊢ (slot m k t r fullShare : sProp 𝕄) := by
    iintro ⟨⟨H0, H1, H2⟩, H3⟩
    iapply (hs fullShare).2
    isplitl [H0 H1]
    · iapply (hs fullShare.left).2
      isplitl [H0]; · iexact H0
      iexact H1
    · iapply (hs fullShare.right).2
      isplitl [H2]; · iexact H2
      iexact H3
  exact BI.equiv_iff.mp ⟨h1, h2⟩

/-! ## The schedule -/

/-- The credit of one block, in either kind. -/
abbrev N : ℕ := (wiRow 0).view.dmaCredit
theorem N_pos : 0 < N := View.dmaCredit_pos _ (by decide)
theorem amountI (r : Fin 12) (q : DmaSem sig) : (wiRow r).view.amount (.dma q) = N := rfl
theorem amountO (r : Fin 12) (q : DmaSem sig) : (woRow r).view.amount (.dma q) = N :=
  show (woRow 0).view.dmaCredit = (wiRow 0).view.dmaCredit by decide +kernel

/-- What device `t` hands device `d` at the barrier: for every layer, the slots on `t` that `d`'s blocks go to. -/
def handed (t d : Dev nD) : sProp 𝕄 :=
  bigSep Finset.univ fun l : Fin 3 => bigSep Finset.univ fun k : Fin 2 => slotAny k t (row l d)

/-- What transfer `s`'s completion hands back to its source `c`, -/
def sendPay (c : Dev nD) (s : Step) : sProp 𝕄 := slot m s.2.2 c (row s.1 c) (sh s.2.1)
/-- and to its destination `c`. -/
def recvPay (c : Dev nD) (s : Step) : sProp 𝕄 := slot m s.2.2 c (row s.1 (peer c s.2.1.rev)) fullShare

/-- The payload of duty `j` of cell `g`. -/
def pay (g : GSem nD τ sig) (j : Fin 3) : sProp 𝕄 := match g.2 with
  | .reg _ => handed (peer g.1.1 j) g.1.1
  | .dma q => if 26 ≤ q.val then recvPay m g.1.1 (dec (q.val - 26)) else sendPay m g.1.1 (dec (q.val - 8))

instance pay_storable (g : GSem nD τ sig) (j : Fin 3) : BI.Storable (upEmb : UEmb _ 𝕄) (pay (F := F) m g j) := by
  unfold pay handed recvPay sendPay
  (repeat' split) <;> infer_instance

/-- The duties of a cell in round 0. -/
def duty (g : GSem nD τ sig) : Finset (Fin 3) := match g.2 with
  | .reg q => if q = barS then Finset.univ else ∅
  | .dma q => if 8 ≤ q.val then {0} else ∅

def units (g : GSem nD τ sig) : ℕ := match g.2 with
  | .reg _ => 1
  | .dma _ => N

def Rd : Rounds.Schedule (GSem nD τ sig) (Fin 3) 𝕄 where
  duties g r := if r = 0 ∧ g.1.2 = .tc then duty g else ∅
  unitless _ := False
  amount g _ _ := units g
  payload g _ j := pay m g j
  amount_pos g _ _ _ := by
    unfold units; split
    · exact Nat.one_pos
    · exact N_pos

instance Rd_payload_storable (g : GSem nD τ sig) (r : ℕ) (j : Fin 3) : BI.Storable (upEmb : UEmb _ 𝕄) ((Rd (F := F) m).payload g r j) :=
  pay_storable m g j

section Tables
variable (c : Dev nD) (s : Step)

theorem duties_bar : (Rd (F := F) m).duties (barCell c) 0 = Finset.univ := by
  dsimp only [Rd]; rw [if_pos ⟨rfl, rfl⟩]; unfold duty; exact if_pos rfl
theorem duties_send : (Rd (F := F) m).duties (sendCell c s) 0 = {0} := by
  dsimp only [Rd]; rw [if_pos ⟨rfl, rfl⟩]; exact if_pos (Nat.le_add_right 8 _)
theorem duties_recv : (Rd (F := F) m).duties (recvCell c s) 0 = {0} := by
  dsimp only [Rd]; rw [if_pos ⟨rfl, rfl⟩]; exact if_pos (le_trans (by decide : 8 ≤ 26) (Nat.le_add_right 26 _))
theorem duties_later (g : GSem nD τ sig) : ∀ r, 1 ≤ r → (Rd (F := F) m).duties g r = ∅ :=
  fun r hr => if_neg fun h => by omega

theorem expect_bar : (Rd (F := F) m).expect (barCell c) 0 = 3 := by
  unfold Schedule.expect Schedule.amountOf; rw [duties_bar]; rfl
theorem expect_send : (Rd (F := F) m).expect (sendCell c s) 0 = N := by
  unfold Schedule.expect Schedule.amountOf; rw [duties_send, Finset.sum_singleton]; rfl
theorem expect_recv : (Rd (F := F) m).expect (recvCell c s) 0 = N := by
  unfold Schedule.expect Schedule.amountOf; rw [duties_recv, Finset.sum_singleton]; rfl

theorem pay_bar (j : Fin 3) : (Rd (F := F) m).payload (barCell c) 0 j = handed (peer c j) c := rfl
theorem pay_send (j : Fin 3) : (Rd (F := F) m).payload (sendCell c s) 0 j = sendPay m c s := by
  show (if 26 ≤ 8 + enc s then _ else sendPay m c (dec (8 + enc s - 8))) = _
  rw [if_neg (by have := enc_lt s; omega), Nat.add_sub_cancel_left, dec_enc]
theorem pay_recv (j : Fin 3) : (Rd (F := F) m).payload (recvCell c s) 0 j = recvPay m c s := by
  show (if 26 ≤ 26 + enc s then recvPay m c (dec (26 + enc s - 26)) else _) = _
  rw [if_pos (Nat.le_add_right 26 _), Nat.add_sub_cancel_left, dec_enc]

theorem rest_bar : bigSep ((Rd (F := F) m).duties (barCell c) 0 \ ∅) (fun j => (Rd (F := F) m).payload (barCell c) 0 j)
    = bigSep Finset.univ fun j : Fin 3 => handed (peer c j) c := by
  rw [Finset.sdiff_empty, duties_bar]; rfl
theorem rest_send : bigSep ((Rd (F := F) m).duties (sendCell c s) 0 \ ∅) (fun j => (Rd (F := F) m).payload (sendCell c s) 0 j) = sendPay m c s := by
  rw [Finset.sdiff_empty, duties_send, bigSep_singleton, pay_send]
theorem rest_recv : bigSep ((Rd (F := F) m).duties (recvCell c s) 0 \ ∅) (fun j => (Rd (F := F) m).payload (recvCell c s) 0 j) = recvPay m c s := by
  rw [Finset.sdiff_empty, duties_recv, bigSep_singleton, pay_recv]

end Tables

/-! ## What each device owes; the levels -/

/-- From its `n`-th transfer on, device `c` owes every destination the credit of the transfers still to start. -/
def owedS (c : Dev nD) (n : ℕ) : CellTallies nD τ sig Unit :=
  ∑ s : Step, if n ≤ num s then tallyAt (recvCell (peer c s.2.1) s) () N else 0

theorem owedS_step (c : Dev nD) (s : Step) : owedS c (num s) = owedS c (num s + 1) + tallyAt (recvCell (peer c s.2.1) s) () N := by
  unfold owedS
  have h (x : Step) : (if num s ≤ num x then tallyAt (recvCell (peer c x.2.1) x) () N else 0 : CellTallies nD τ sig Unit)
      = (if num s + 1 ≤ num x then tallyAt (recvCell (peer c x.2.1) x) () N else 0) + if x = s then tallyAt (recvCell (peer c x.2.1) x) () N else 0 := by
    by_cases hx : x = s
    · subst hx; rw [if_pos le_rfl, if_neg (by omega), if_pos rfl, zero_add]
    · have : num x ≠ num s := fun h => hx (num_injective h)
      by_cases hl : num s ≤ num x
      · rw [if_pos hl, if_pos (by omega), if_neg hx, add_zero]
      · rw [if_neg hl, if_neg (by omega), if_neg hx, add_zero]
  rw [Finset.sum_congr rfl fun x _ => h x, Finset.sum_add_distrib]
  congr 1
  rw [Finset.sum_ite_eq' Finset.univ s, if_pos (Finset.mem_univ _)]
theorem owedS_end (c : Dev nD) : owedS c 18 = 0 :=
  Finset.sum_eq_zero fun s _ => if_neg (by have := num_lt s; omega)

/-- What is still owed before signal `o` to the barrier cells: those of the signals `o`, `o + 1`, …, and all transfers. -/
def O₂ (c : Dev nD) : CellTallies nD τ sig Unit := owedS c 0 + tallyAt (barCell (peer c 2)) () 1
def O₁ (c : Dev nD) : CellTallies nD τ sig Unit := O₂ c + tallyAt (barCell (peer c 1)) () 1
def O₀ (c : Dev nD) : CellTallies nD τ sig Unit := O₁ c + tallyAt (barCell (peer c 0)) () 1

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => if 26 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Step) (u : Unit) : lv (recvCell c s) u = 2 := if_pos (Nat.le_add_right 26 _)

/-- Owed transfer credit sits on receive cells only. -/
theorem owedS_pos {c : Dev nD} {n : ℕ} {g : GSem nD τ sig} {u : Unit} (h : 0 < owedS c n g u) : ∃ d s, g = recvCell d s := by
  by_contra hn
  have hz : owedS c n g u = 0 := by
    unfold owedS
    rw [Finset.sum_apply, Finsupp.finset_sum_apply]
    refine Finset.sum_eq_zero fun s _ => ?_
    split
    · rw [tallyAt_apply, if_neg (fun h' => hn ⟨_, _, h'.1⟩)]
    · rfl
  omega

theorem O₀_pos {c : Dev nD} {g : GSem nD τ sig} {u : Unit} (h : 0 < O₀ c g u) : (∃ d s, g = recvCell d s) ∨ ∃ d, g = barCell d := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  exact hn.1 (owedS_pos (c := c) (n := 0) (g := g) (u := u) (by omega))

/-- A wait on a staging semaphore is below everything a device owes at launch. -/
theorem mayWait_stage (c : Dev nD) (q : DmaSem sig) (hq : ¬ 26 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, rfl⟩ | ⟨d, rfl⟩ <;> exact Finset.mem_singleton_self _)
      (fun p hp => by rw [Finset.mem_singleton.mp hp]; exact le_of_eq (if_neg hq))
      (fun g u hg => by
        rcases O₀_pos hg with ⟨d, s, rfl⟩ | ⟨d, rfl⟩
        · rw [lv_recv]; decide
        · exact Nat.one_pos)
  · rw [MayWait_zero]; iintro -; iempintro

/-- At its barrier wait a device owes transfer credit only, which sits above the barrier. -/
theorem mayWait_bar (c : Dev nD) : (levAts L lv : sProp 𝕄) ⊢ MayWait (c : Thread nD τ) (.reg barS) () (owedS c 0) :=
  MayOwe.of_cut (L := L) (lev := lv) 1 (fun p hp => by rw [Finset.mem_singleton.mp hp, L_tc]; exact Finset.mem_singleton_self _)
    (fun g u hg => by obtain ⟨d, s, rfl⟩ := owedS_pos hg; exact Finset.mem_singleton_self _)
    (fun p hp => by rw [Finset.mem_singleton.mp hp]; exact le_rfl)
    (fun g u hg => by obtain ⟨d, s, rfl⟩ := owedS_pos hg; rw [lv_recv]; decide)

/-! ## The cells together -/

/-- The kernel's own semaphores: the transfers' send cells and receive cells. -/
abbrev Own : Type := Step ⊕ Step
def osem : Own → SemLoc sig
  | .inl s => .dma (sendS s) | .inr s => .dma (recvS s)
/-- All cells of the protocol on one device: the barrier's and those. -/
abbrev Cell : Type := Unit ⊕ Own
instance : DecidableEq Cell := instDecidableEqSum
def csem : Cell → SemLoc sig
  | .inl _ => .reg barS | .inr k => osem k
abbrev kcell (ck : Dev nD × Cell) : GSem nD τ sig := ((ck.1 : Thread nD τ), csem ck.2)

abbrev cBar : Cell := .inl ()
abbrev cSend (s : Step) : Cell := .inr (.inl s)
abbrev cRecv (s : Step) : Cell := .inr (.inr s)

/-- The invariants of all cells of all devices, under the names `K`, and that each has reached round 0. -/
def records (K : Dev nD × Cell → ℕ) : sProp 𝕄 :=
  iprop((bigSep Finset.univ fun ck : Dev nD × Cell => cellInv ER (Rd m) (K ck) (kcell ck))
    ∗ bigSep Finset.univ fun ck : Dev nD × Cell => reached ER (kcell ck) 0)

instance records_persistent (K : Dev nD × Cell → ℕ) : BI.Persistent (records m K) := by unfold records; infer_instance

theorem inv_at (K : Dev nD × Cell → ℕ) (ck : Dev nD × Cell) : (records m K : sProp 𝕄) ⊢ cellInv ER (Rd m) (K ck) (kcell ck) := by
  unfold records
  have h : (bigSep Finset.univ fun ck : Dev nD × Cell => (cellInv ER (Rd m) (K ck) (kcell ck) : sProp 𝕄)) ⊢ cellInv ER (Rd m) (K ck) (kcell ck) := bigSep_elim (Finset.mem_univ ck)
  iintro ⟨H, -⟩; iapply h; iexact H
theorem reached_at (K : Dev nD × Cell → ℕ) (ck : Dev nD × Cell) : (records m K : sProp 𝕄) ⊢ reached ER (kcell ck) 0 := by
  unfold records
  have h : (bigSep Finset.univ fun ck : Dev nD × Cell => (reached ER (kcell ck) 0 : sProp 𝕄)) ⊢ reached ER (kcell ck) 0 := bigSep_elim (Finset.mem_univ ck)
  iintro ⟨-, H⟩; iapply h; iexact H

/-! ## The eighteen transfers in order -/

/-- A resource per transfer: `B` for those before place `n`, `A` for the others. -/
def upto (n : ℕ) (A B : Step → sProp 𝕄) : sProp 𝕄 := bigSep Finset.univ fun s : Step => if num s < n then B s else A s

theorem upto_zero (A B : Step → sProp 𝕄) : upto 0 A B = bigSep Finset.univ A := bigSep_congr fun s _ => if_neg (Nat.not_lt_zero _)
theorem upto_end (A B : Step → sProp 𝕄) : upto 18 A B = bigSep Finset.univ B := bigSep_congr fun s _ => if_pos (num_lt s)

/-- The transfer at place `num s` taken out, to be put back one place further on. -/
theorem upto_step (s : Step) (A B : Step → sProp 𝕄) : upto (num s) A B ⊢ iprop(A s ∗ (B s -∗ upto (num s + 1) A B)) := by
  unfold upto
  rw [bigSep_univ_at _ s, bigSep_univ_at (fun x => if num x < num s + 1 then B x else A x) s, if_neg (lt_irrefl _), if_pos (Nat.lt_succ_self _)]
  have h : bigSep (Finset.univ.erase s) (fun x => if num x < num s then B x else A x) = bigSep (Finset.univ.erase s) (fun x => if num x < num s + 1 then B x else A x) :=
    bigSep_congr fun x hx => by
      have hne : num x ≠ num s := fun h => (Finset.mem_erase.mp hx).1 (num_injective h)
      by_cases h1 : num x < num s
      · rw [if_pos h1, if_pos (by omega)]
      · rw [if_neg h1, if_neg (by omega)]
  rw [h]
  iintro ⟨HA, HR⟩
  isplitl [HA]; · iexact HA
  iintro HB
  isplitl [HB]; · iexact HB
  iexact HR

/-- A transfer already past, borrowed. -/
theorem upto_get (n : ℕ) (s : Step) (h : num s < n) (A B : Step → sProp 𝕄) : upto n A B ⊢ iprop(B s ∗ (B s -∗ upto n A B)) := by
  unfold upto
  rw [bigSep_univ_at _ s, if_pos h]
  iintro ⟨HB, HR⟩
  isplitl [HB]; · iexact HB
  iintro HB
  isplitl [HB]; · iexact HB
  iexact HR

end Cert.GatherProof

end
-- ==== Proof.Steps.lean ====
/-
# Steps: one rule per kind of operation the kernel performs

Each rule takes the resources of a phase at place `n` of the eighteen transfers to those at place `n + 1`:
starting a transfer (`wp_send_wi`, `wp_send_wo`), waiting for an arrival (`wp_recv`), waiting for a departure
(`wp_depart`). Two more read a gathered block (`wp_load_wi`, `wp_load_wo`).
-/
module

public import proofs.«01_k».proof.Proof.Schedule

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)
variable (K : Dev nD × Cell → ℕ)

/-! ## The phases' resources -/

/-- Before transfer `s` starts: its two duty tokens, the share of the own slot it reads, the slot it fills. -/
def unsent (c : Dev nD) (s : Step) : sProp 𝕄 :=
  iprop(atPos ER (sendCell c s) 0 ∅ 0 ∗ dutyTok ER (sendCell c s) 0 0 ∗ dutyTok ER (recvCell (peer c s.2.1) s) 0 0
    ∗ slot m s.2.2 c (row s.1 c) (sh s.2.1) ∗ slotAny s.2.2 (peer c s.2.1) (row s.1 c))
/-- After: the credit to wait for its departure with. -/
def sent (c : Dev nD) (s : Step) : sProp 𝕄 :=
  iprop(atPos ER (sendCell c s) 0 ∅ 0 ∗ cred (tallyAt (sendCell c s) () N))
/-- Once it has departed: its cell at zero and the share of the own slot back. -/
def departed (c : Dev nD) (s : Step) : sProp 𝕄 :=
  iprop(semVal (sendCell c s) 0 ∗ slot m s.2.2 c (row s.1 c) (sh s.2.1))
/-- Before transfer `s` has arrived at `c`: the credit to wait with. -/
def expected (c : Dev nD) (s : Step) : sProp 𝕄 :=
  iprop(atPos ER (recvCell c s) 0 ∅ 0 ∗ cred (tallyAt (recvCell c s) () N))
/-- After: its cell at zero and the slot it filled. -/
def arrived (c : Dev nD) (s : Step) : sProp 𝕄 :=
  iprop(semVal (recvCell c s) 0 ∗ slot m s.2.2 c (row s.1 (peer c s.2.1.rev)) fullShare)
/-- The shares of the own slots the device keeps to read from. -/
def kept (c : Dev nD) : sProp 𝕄 :=
  bigSep Finset.univ fun l : Fin 3 => bigSep Finset.univ fun k : Fin 2 => slot m k c (row l c) keepSh

/-- A device owing `O`. -/
def owing (c : Dev nD) (O : CellTallies nD τ sig Unit) : sProp 𝕄 := iprop(∃ W, owes (c : Thread nD τ) O W)

def Sending (c : Dev nD) (n : ℕ) : sProp 𝕄 := iprop(records m K ∗ owing c (owedS c n) ∗ upto n (unsent m c) (sent c))
def Recving (c : Dev nD) (n : ℕ) : sProp 𝕄 := iprop(records m K ∗ owing c 0 ∗ upto n (expected c) (arrived m c) ∗ kept m c)
def Departing (c : Dev nD) (n : ℕ) : sProp 𝕄 := iprop(records m K ∗ owing c 0 ∗ upto n (sent c) (departed m c))

/-! ## Starting a transfer -/

/-- A slice of a gather buffer at row `r`'s offsets is row `r`. -/
theorem sliceI_eq {off : Fin 3 → ℕ} {h} {hs} (r : Fin 12) (ho : off = ![r.val, 0, 0]) :
    (wiM.slice (Rect.unit (s := S12x128x256) off S1x128x256.size h) hs : Memref sig .tc .vmem S1x128x256 .bf16) = wiRow r := by subst ho; rfl
theorem sliceO_eq {off : Fin 3 → ℕ} {h} {hs} (r : Fin 12) (ho : off = ![r.val, 0, 0]) :
    (woM.slice (Rect.unit (s := S12x256x128) off S1x256x128.size h) hs : Memref sig .tc .vmem S1x256x128 .bf16) = woRow r := by subst ho; rfl

section Send
variable (c : Dev nD) (s : Step)

/-- Transfer `s` of a `Win` block, the resources it takes one by one: the invariants of its two cells, the share of the
    row it reads, the row it fills, what the device owes, and the two duties with their rounds reached. -/
theorem send_wi (hk : s.2.2 = 0) {n : Dev nD} (hn : n = peer c s.2.1)
    {hsc : (wiRow (row s.1 c) : Memref sig (Dev.tc n : Thread nD τ).2.kind .vmem S1x128x256 .bf16).view.ref.isScScratch = false}
    {hsrc : (wiRow (row s.1 c)).view.WordExact} {hdst : (wiRow (row s.1 c)).view.WordExact}
    {hsem : DmaTarget.Typed .vmem (.dma (recvS s)) (.remote (Dev.tc n : Thread nD τ) (wiRow (row s.1 c)) (.dma (sendS s)) hsc)}
    {α : Type} {Q : α → sProp 𝕄} {k : PUnit → Prog (TpuEff nD τ sig (Elt F) Λ₀ .tc) α}
    (fd : Buf (Elt F) ((wiRow (row s.1 c)).view.loc (peer c s.2.1 : Thread nD τ))) (W : Waits sig Unit) :
    iprop(cellInv ER (Rd m) (K (c, cSend s)) (sendCell c s) ∗ cellInv ER (Rd m) (K (peer c s.2.1, cRecv s)) (recvCell (peer c s.2.1) s)
        ∗ ((wiRow (row s.1 c)).view.loc (c : Thread nD τ) ↦[(wiRow (row s.1 c)).view.set]{sh s.2.1} gathI m)
        ∗ ((wiRow (row s.1 c)).view.loc (peer c s.2.1 : Thread nD τ) ↦[(wiRow (row s.1 c)).view.set]{fullShare} fd)
        ∗ owes (c : Thread nD τ) (owedS c (num s)) W
        ∗ dutyTok ER (sendCell c s) 0 0 ∗ reached ER (sendCell c s) 0
        ∗ dutyTok ER (recvCell (peer c s.2.1) s) 0 0 ∗ reached ER (recvCell (peer c s.2.1) s) 0)
      ⊢ iprop(((cred (tallyAt (sendCell c s) () N) ∗ owes (c : Thread nD τ) (owedS c (num s + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wiRow (row s.1 c)) (.remote (Dev.tc n : Thread nD τ) (wiRow (row s.1 c)) (.dma (sendS s)) hsc) (.dma (recvS s)) hsrc hdst hsem) k) Q) := by
  subst hn
  exact Rounds.wp_send_pointsTo 𝒱₀ ER (Rd m) (c : Thread nD τ) none (κ₁ := K (c, cSend s)) (κ₂ := K (peer c s.2.1, cRecv s))
    (r₁ := 0) (r₂ := 0) (d₁ := 0) (d₂ := 0) (fd := fd)
    (by rw [duties_send]; exact Finset.mem_singleton_self _) (by rw [duties_recv]; exact Finset.mem_singleton_self _)
    () () N (amountI _ _) rfl rfl (owedS c (num s + 1)) (owedS_step c s) (W := W)
    (by rw [pay_send]; unfold sendPay slot; rw [hk])
    (by
      rw [pay_recv, read_rowI]; unfold recvPay slot; rw [hk, peer_rev]
      exact Entails.of_eq (pointsTo_congr (write_rowI m (row s.1 c) fd)))

/-- Transfer `s` of a `Win` block, from its own row to the same row of the device at its distance. -/
theorem wp_send_wi (hk : s.2.2 = 0) (n₀ : ℕ) (h₀ : n₀ = num s) (n₁ : ℕ) (h₁ : n₁ = num s + 1) {src dst : Memref sig .tc .vmem S1x128x256 .bf16} (hs : src = wiRow (row s.1 c)) (hd : dst = wiRow (row s.1 c))
    {n : Dev nD} (hn : n = peer c s.2.1) {qs qr : DmaSem sig} (hqs : qs = sendS s) (hqr : qr = recvS s)
    {hsc : (dst : Memref sig (Dev.tc n : Thread nD τ).2.kind .vmem S1x128x256 .bf16).view.ref.isScScratch = false}
    {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α} :
    Sending m K c n₀
      ⊢ iprop((Sending m K c n₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hs hd hqs hqr h₀ h₁
  unfold Sending Cert.GatherProof.owing
  iintro ⟨#HR, ⟨%W, HO⟩, HU⟩ Hk
  ihave HU := (upto_step s (unsent m c) (sent c)) $$ HU
  icases HU with ⟨HA, HB⟩
  unfold unsent slotAny slot
  rw [hk]
  dsimp only
  icases HA with ⟨Hat, HtS, HtR, Hsrc, ⟨%fd, Hdst⟩⟩
  iapply (send_wi m K c s hk hn fd W) $$ [HO HtS HtR Hsrc Hdst]
  · isplitr; · iapply (inv_at m K (c, cSend s)); iexact HR
    isplitr; · iapply (inv_at m K (peer c s.2.1, cRecv s)); iexact HR
    isplitl [Hsrc]; · iexact Hsrc
    isplitl [Hdst]; · iexact Hdst
    isplitl [HO]; · iexact HO
    isplitl [HtS]; · iexact HtS
    isplitr; · iapply (reached_at m K (c, cSend s)); iexact HR
    isplitl [HtR]; · iexact HtR
    iapply (reached_at m K (peer c s.2.1, cRecv s)); iexact HR
  iintro ⟨Hc, HO⟩
  iapply Hk
  isplitr; · iexact HR
  isplitl [HO]; · iexists W; iexact HO
  iapply HB
  unfold sent
  isplitl [Hat]; · iexact Hat
  iexact Hc

/-- Transfer `s` of a `Wout` block, the resources it takes one by one: the invariants of its two cells, the share of the
    row it reads, the row it fills, what the device owes, and the two duties with their rounds reached. -/
theorem send_wo (hk : s.2.2 = 1) {n : Dev nD} (hn : n = peer c s.2.1)
    {hsc : (woRow (row s.1 c) : Memref sig (Dev.tc n : Thread nD τ).2.kind .vmem S1x256x128 .bf16).view.ref.isScScratch = false}
    {hsrc : (woRow (row s.1 c)).view.WordExact} {hdst : (woRow (row s.1 c)).view.WordExact}
    {hsem : DmaTarget.Typed .vmem (.dma (recvS s)) (.remote (Dev.tc n : Thread nD τ) (woRow (row s.1 c)) (.dma (sendS s)) hsc)}
    {α : Type} {Q : α → sProp 𝕄} {k : PUnit → Prog (TpuEff nD τ sig (Elt F) Λ₀ .tc) α}
    (fd : Buf (Elt F) ((woRow (row s.1 c)).view.loc (peer c s.2.1 : Thread nD τ))) (W : Waits sig Unit) :
    iprop(cellInv ER (Rd m) (K (c, cSend s)) (sendCell c s) ∗ cellInv ER (Rd m) (K (peer c s.2.1, cRecv s)) (recvCell (peer c s.2.1) s)
        ∗ ((woRow (row s.1 c)).view.loc (c : Thread nD τ) ↦[(woRow (row s.1 c)).view.set]{sh s.2.1} gathO m)
        ∗ ((woRow (row s.1 c)).view.loc (peer c s.2.1 : Thread nD τ) ↦[(woRow (row s.1 c)).view.set]{fullShare} fd)
        ∗ owes (c : Thread nD τ) (owedS c (num s)) W
        ∗ dutyTok ER (sendCell c s) 0 0 ∗ reached ER (sendCell c s) 0
        ∗ dutyTok ER (recvCell (peer c s.2.1) s) 0 0 ∗ reached ER (recvCell (peer c s.2.1) s) 0)
      ⊢ iprop(((cred (tallyAt (sendCell c s) () N) ∗ owes (c : Thread nD τ) (owedS c (num s + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (woRow (row s.1 c)) (.remote (Dev.tc n : Thread nD τ) (woRow (row s.1 c)) (.dma (sendS s)) hsc) (.dma (recvS s)) hsrc hdst hsem) k) Q) := by
  subst hn
  exact Rounds.wp_send_pointsTo 𝒱₀ ER (Rd m) (c : Thread nD τ) none (κ₁ := K (c, cSend s)) (κ₂ := K (peer c s.2.1, cRecv s))
    (r₁ := 0) (r₂ := 0) (d₁ := 0) (d₂ := 0) (fd := fd)
    (by rw [duties_send]; exact Finset.mem_singleton_self _) (by rw [duties_recv]; exact Finset.mem_singleton_self _)
    () () N (amountO _ _) rfl rfl (owedS c (num s + 1)) (owedS_step c s) (W := W)
    (by rw [pay_send]; unfold sendPay slot; rw [hk])
    (by
      rw [pay_recv, read_rowO]; unfold recvPay slot; rw [hk, peer_rev]
      exact Entails.of_eq (pointsTo_congr (write_rowO m (row s.1 c) fd)))

/-- Transfer `s` of a `Wout` block, from its own row to the same row of the device at its distance. -/
theorem wp_send_wo (hk : s.2.2 = 1) (n₀ : ℕ) (h₀ : n₀ = num s) (n₁ : ℕ) (h₁ : n₁ = num s + 1) {src dst : Memref sig .tc .vmem S1x256x128 .bf16} (hs : src = woRow (row s.1 c)) (hd : dst = woRow (row s.1 c))
    {n : Dev nD} (hn : n = peer c s.2.1) {qs qr : DmaSem sig} (hqs : qs = sendS s) (hqr : qr = recvS s)
    {hsc : (dst : Memref sig (Dev.tc n : Thread nD τ).2.kind .vmem S1x256x128 .bf16).view.ref.isScScratch = false}
    {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α} :
    Sending m K c n₀
      ⊢ iprop((Sending m K c n₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hs hd hqs hqr h₀ h₁
  unfold Sending Cert.GatherProof.owing
  iintro ⟨#HR, ⟨%W, HO⟩, HU⟩ Hk
  ihave HU := (upto_step s (unsent m c) (sent c)) $$ HU
  icases HU with ⟨HA, HB⟩
  unfold unsent slotAny slot
  rw [hk]
  dsimp only
  icases HA with ⟨Hat, HtS, HtR, Hsrc, ⟨%fd, Hdst⟩⟩
  iapply (send_wo m K c s hk hn fd W) $$ [HO HtS HtR Hsrc Hdst]
  · isplitr; · iapply (inv_at m K (c, cSend s)); iexact HR
    isplitr; · iapply (inv_at m K (peer c s.2.1, cRecv s)); iexact HR
    isplitl [Hsrc]; · iexact Hsrc
    isplitl [Hdst]; · iexact Hdst
    isplitl [HO]; · iexact HO
    isplitl [HtS]; · iexact HtS
    isplitr; · iapply (reached_at m K (c, cSend s)); iexact HR
    isplitl [HtR]; · iexact HtR
    iapply (reached_at m K (peer c s.2.1, cRecv s)); iexact HR
  iintro ⟨Hc, HO⟩
  iapply Hk
  isplitr; · iexact HR
  isplitl [HO]; · iexists W; iexact HO
  iapply HB
  unfold sent
  isplitl [Hat]; · iexact Hat
  iexact Hc

end Send

end Cert.GatherProof

end
-- ==== Proof.Waits.lean ====
/-
# Waits: an arrival, a departure, and the reading of a gathered block

Each rule takes the resources of its phase from one place to the next: `wp_recv` waits until transfer `s` has arrived,
`wp_depart` until it has left, and `wp_load_wi` / `wp_load_wo` read a row of the gather buffers that is already there.
-/
module

public import proofs.«01_k».proof.Proof.Steps

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ)
variable (c : Dev nD) (s : Step)

/-! ## Waiting -/

/-- Transfer `s` has arrived: the device gets the slot it filled, and the semaphore is at zero for good. -/
theorem wp_recv (n₀ : ℕ) (h₀ : n₀ = num s) (n₁ : ℕ) (h₁ : n₁ = num s + 1) {α : Type} {Q : α → sProp 𝕄} {k : PUnit → Prog (TpuEff nD τ sig (Elt F) Λ₀ .tc) α}
    {q : DmaSem sig} (hq : q = recvS s) {sp sp' : Space} {S S' : Shape} {e e' : EltTy}
    {src : Memref sig .tc sp' S' e'} {dst : Memref sig .tc sp S e} {hsrc : src.view.WordExact} {hdst : dst.view.WordExact}
    (hN : dst.view.dmaCredit = N) :
    Recving m K c n₀
      ⊢ iprop((Recving m K c n₁ -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq h₀ h₁
  unfold Recving Cert.GatherProof.owing
  iintro ⟨#HR, ⟨%W, HO⟩, HU, HK⟩ Hk
  ihave HU := (upto_step s (expected c) (arrived m c)) $$ HU
  icases HU with ⟨HA, HB⟩
  unfold expected
  icases HA with ⟨Hat, Hc⟩
  iapply (Rounds.wp_wait_rest_token 𝒱₀ ER (Rd m) (c : Thread nD τ) none (κ := K (c, cRecv s))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_at m K (c, cRecv s)); iexact HR
    isplitl [Hc]; · rw [hN]; iexact Hc
    isplitl [HO]; · iexact HO
    isplitr; · rw [MayWait_zero]; iempintro
    iexact Hat
  iintro ⟨HO, Hat, -, Hpay⟩
  ihave Hs := (Entails.of_eq (rest_recv m c s)) $$ Hpay
  imod (Rounds.cell_close ER (Rd m) (Set.mem_univ (K (c, cRecv s))) (fun h => h) (R := 0 + 1) (duties_later m (recvCell c s))) $$ [Hat] with Hz
  · isplitr; · iapply (inv_at m K (c, cRecv s)); iexact HR
    iexact Hat
  iapply Hk
  isplitr; · iexact HR
  isplitl [HO]; · iexists _; iexact HO
  isplitr [HK]
  · iapply HB
    unfold arrived recvPay
    isplitl [Hz]; · iexact Hz
    iexact Hs
  · iexact HK

/-- Transfer `s` has left: the device gets the share of its own slot back, and the semaphore is at zero for good. -/
theorem wp_depart (n₀ : ℕ) (h₀ : n₀ = num s) (n₁ : ℕ) (h₁ : n₁ = num s + 1) {α : Type} {Q : α → sProp 𝕄} {k : PUnit → Prog (TpuEff nD τ sig (Elt F) Λ₀ .tc) α}
    {q : DmaSem sig} (hq : q = sendS s) {sp sp' : Space} {S S' : Shape} {e e' : EltTy}
    {src : Memref sig .tc sp' S' e'} {dst : Memref sig .tc sp S e} {hsrc : src.view.WordExact} {hdst : dst.view.WordExact}
    (hN : dst.view.dmaCredit = N) :
    Departing m K c n₀
      ⊢ iprop((Departing m K c n₁ -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq h₀ h₁
  unfold Departing Cert.GatherProof.owing
  iintro ⟨#HR, ⟨%W, HO⟩, HU⟩ Hk
  ihave HU := (upto_step s (sent c) (departed m c)) $$ HU
  icases HU with ⟨HA, HB⟩
  unfold sent
  icases HA with ⟨Hat, Hc⟩
  iapply (Rounds.wp_wait_rest_token 𝒱₀ ER (Rd m) (c : Thread nD τ) none (κ := K (c, cSend s))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_at m K (c, cSend s)); iexact HR
    isplitl [Hc]; · rw [hN]; iexact Hc
    isplitl [HO]; · iexact HO
    isplitr; · rw [MayWait_zero]; iempintro
    iexact Hat
  iintro ⟨HO, Hat, -, Hpay⟩
  ihave Hs := (Entails.of_eq (rest_send m c s)) $$ Hpay
  imod (Rounds.cell_close ER (Rd m) (Set.mem_univ (K (c, cSend s))) (fun h => h) (R := 0 + 1) (duties_later m (sendCell c s))) $$ [Hat] with Hz
  · isplitr; · iapply (inv_at m K (c, cSend s)); iexact HR
    iexact Hat
  iapply Hk
  isplitr; · iexact HR
  isplitl [HO]; · iexists _; iexact HO
  iapply HB
  unfold departed sendPay
  isplitl [Hz]; · iexact Hz
  iexact Hs

/-! ### On the slices the kernel names in its waits: a block's credit whatever the row -/

/-- `wp_recv` through a slice of the `Win` gather buffer. -/
theorem wp_recv_wi (n₀ : ℕ) (h₀ : n₀ = num s) (n₁ : ℕ) (h₁ : n₁ = num s + 1)
    {α : Type} {Q : α → sProp 𝕄} {k : PUnit → Prog (TpuEff nD τ sig (Elt F) Λ₀ .tc) α} {q : DmaSem sig} (hq : q = recvS s)
    {off off' : Fin 3 → ℕ} {h h'} {hs hs'}
    {hsrc : (wiM.slice (Rect.unit (s := S12x128x256) off' S1x128x256.size h') hs' : Memref sig .tc .vmem S1x128x256 .bf16).view.WordExact}
    {hdst : (wiM.slice (Rect.unit (s := S12x128x256) off S1x128x256.size h) hs : Memref sig .tc .vmem S1x128x256 .bf16).view.WordExact} :
    (Recving m K c n₀ : sProp 𝕄)
      ⊢ iprop((Recving m K c n₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (wiM.slice (Rect.unit (s := S12x128x256) off' S1x128x256.size h') hs') (wiM.slice (Rect.unit (s := S12x128x256) off S1x128x256.size h) hs) hsrc hdst) k) Q) :=
  wp_recv m K c s n₀ h₀ n₁ h₁ hq rfl
/-- `wp_depart` through a slice of the `Win` gather buffer. -/
theorem wp_depart_wi (n₀ : ℕ) (h₀ : n₀ = num s) (n₁ : ℕ) (h₁ : n₁ = num s + 1)
    {α : Type} {Q : α → sProp 𝕄} {k : PUnit → Prog (TpuEff nD τ sig (Elt F) Λ₀ .tc) α} {q : DmaSem sig} (hq : q = sendS s)
    {off off' : Fin 3 → ℕ} {h h'} {hs hs'}
    {hsrc : (wiM.slice (Rect.unit (s := S12x128x256) off' S1x128x256.size h') hs' : Memref sig .tc .vmem S1x128x256 .bf16).view.WordExact}
    {hdst : (wiM.slice (Rect.unit (s := S12x128x256) off S1x128x256.size h) hs : Memref sig .tc .vmem S1x128x256 .bf16).view.WordExact} :
    (Departing m K c n₀ : sProp 𝕄)
      ⊢ iprop((Departing m K c n₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (wiM.slice (Rect.unit (s := S12x128x256) off' S1x128x256.size h') hs') (wiM.slice (Rect.unit (s := S12x128x256) off S1x128x256.size h) hs) hsrc hdst) k) Q) :=
  wp_depart m K c s n₀ h₀ n₁ h₁ hq rfl
/-- `wp_recv` through a slice of the `Wout` gather buffer. -/
theorem wp_recv_wo (n₀ : ℕ) (h₀ : n₀ = num s) (n₁ : ℕ) (h₁ : n₁ = num s + 1)
    {α : Type} {Q : α → sProp 𝕄} {k : PUnit → Prog (TpuEff nD τ sig (Elt F) Λ₀ .tc) α} {q : DmaSem sig} (hq : q = recvS s)
    {off off' : Fin 3 → ℕ} {h h'} {hs hs'}
    {hsrc : (woM.slice (Rect.unit (s := S12x256x128) off' S1x256x128.size h') hs' : Memref sig .tc .vmem S1x256x128 .bf16).view.WordExact}
    {hdst : (woM.slice (Rect.unit (s := S12x256x128) off S1x256x128.size h) hs : Memref sig .tc .vmem S1x256x128 .bf16).view.WordExact} :
    (Recving m K c n₀ : sProp 𝕄)
      ⊢ iprop((Recving m K c n₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (woM.slice (Rect.unit (s := S12x256x128) off' S1x256x128.size h') hs') (woM.slice (Rect.unit (s := S12x256x128) off S1x256x128.size h) hs) hsrc hdst) k) Q) :=
  wp_recv m K c s n₀ h₀ n₁ h₁ hq (amountO 0 0)
/-- `wp_depart` through a slice of the `Wout` gather buffer. -/
theorem wp_depart_wo (n₀ : ℕ) (h₀ : n₀ = num s) (n₁ : ℕ) (h₁ : n₁ = num s + 1)
    {α : Type} {Q : α → sProp 𝕄} {k : PUnit → Prog (TpuEff nD τ sig (Elt F) Λ₀ .tc) α} {q : DmaSem sig} (hq : q = sendS s)
    {off off' : Fin 3 → ℕ} {h h'} {hs hs'}
    {hsrc : (woM.slice (Rect.unit (s := S12x256x128) off' S1x256x128.size h') hs' : Memref sig .tc .vmem S1x256x128 .bf16).view.WordExact}
    {hdst : (woM.slice (Rect.unit (s := S12x256x128) off S1x256x128.size h) hs : Memref sig .tc .vmem S1x256x128 .bf16).view.WordExact} :
    (Departing m K c n₀ : sProp 𝕄)
      ⊢ iprop((Departing m K c n₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (woM.slice (Rect.unit (s := S12x256x128) off' S1x256x128.size h') hs') (woM.slice (Rect.unit (s := S12x256x128) off S1x256x128.size h) hs) hsrc hdst) k) Q) :=
  wp_depart m K c s n₀ h₀ n₁ h₁ hq (amountO 0 0)

/-! ## Reading -/

/-- An own slot the device kept a share of, borrowed. -/
theorem kept_get (l : Fin 3) (k : Fin 2) : (kept m c : sProp 𝕄) ⊢ iprop(slot m k c (row l c) keepSh ∗ (slot m k c (row l c) keepSh -∗ kept m c)) := by
  unfold kept
  rw [bigSep_univ_at _ l, bigSep_univ_at _ k]
  iintro ⟨⟨H, H1⟩, H2⟩
  isplitl [H]; · iexact H
  iintro H
  isplitr [H2]
  · isplitl [H]; · iexact H
    iexact H1
  · iexact H2

/-- Once layer `l`'s transfers have arrived, any of its rows can be borrowed. -/
theorem row_get (n : ℕ) (l : Fin 3) (hn : 6 * l.val + 6 ≤ n) (k : Fin 2) (d : Dev nD) :
    (Recving m K c n : sProp 𝕄) ⊢ iprop(∃ q, slot m k c (row l d) q ∗ (slot m k c (row l d) q -∗ Recving m K c n)) := by
  rcases self_or_source c d with rfl | ⟨o, rfl⟩
  · unfold Recving
    iintro ⟨#HR, HO, HU, HK⟩
    ihave HK := (kept_get m d l k) $$ HK
    icases HK with ⟨H, HB⟩
    iexists keepSh
    isplitl [H]; · iexact H
    iintro H
    isplitr; · iexact HR
    isplitl [HO]; · iexact HO
    isplitl [HU]; · iexact HU
    iapply HB; iexact H
  · have hs : num (l, o, k) < n := by unfold num; have := o.isLt; have := k.isLt; dsimp only; omega
    unfold Recving
    iintro ⟨#HR, HO, HU, HK⟩
    ihave HU := (upto_get n (l, o, k) hs (expected c) (arrived m c)) $$ HU
    icases HU with ⟨HA, HB⟩
    unfold arrived
    icases HA with ⟨Hz, H⟩
    iexists fullShare
    isplitl [H]; · iexact H
    iintro H
    isplitr; · iexact HR
    isplitl [HO]; · iexact HO
    isplitr [HK]
    · iapply HB
      isplitl [Hz]; · iexact Hz
      iexact H
    · iexact HK

/-- Reading layer `l`'s `Win` block of device `d`. -/
theorem wp_load_wi (n : ℕ) (l : Fin 3) (hn : 6 * l.val + 6 ≤ n) (d : Dev nD)
    {α : Type} {Q : α → sProp 𝕄} {k : Vec F S1x128x256 .bf16 → Prog (TpuEff nD τ sig (Elt F) Λ₀ .tc) α}
    {off : Fin 3 → ℕ} {h} (ho : off = ![(row l d).val, 0, 0])
    {hl : (wiM : Memref sig .tc .vmem S12x128x256 .bf16).view.LoadsAt (Rect.unit (s := S12x128x256) off S1x128x256.size h).toLoadRect} :
    (Recving m K c n : sProp 𝕄)
      ⊢ iprop((Recving m K c n -∗ wp frame (wpE (defs₀ (F := F)) 𝒱₀ (c : Thread nD τ) none) Set.univ (k (rowValI m (row l d))) Q)
          -∗ wp frame (wpE (defs₀ (F := F)) 𝒱₀ (c : Thread nD τ) none) Set.univ
              (.op (.load wiM (Rect.unit (s := S12x128x256) off S1x128x256.size h).toLoadRect hl) k) Q) := by
  subst ho
  iintro H Hk
  ihave H := (row_get m K c n l hn 0 d) $$ H
  icases H with ⟨%q, H, HB⟩
  unfold slot
  iapply (wp_load_rect 𝒱₀ (c : Thread nD τ) none Set.univ (m := wiM) (r := rectI (row l d)) (S := (wiRow (row l d)).view.set) (q := q) (f := gathI m) (Finset.Subset.refl _)) $$ H
  iintro H
  rw [show (wiM.access (rectI (row l d))).read (Elt F) (gathI m) = rowValI m (row l d) from read_rowI m (row l d)]
  iapply Hk
  iapply HB
  iexact H

/-- Reading layer `l`'s `Wout` block of device `d`. -/
theorem wp_load_wo (n : ℕ) (l : Fin 3) (hn : 6 * l.val + 6 ≤ n) (d : Dev nD)
    {α : Type} {Q : α → sProp 𝕄} {k : Vec F S1x256x128 .bf16 → Prog (TpuEff nD τ sig (Elt F) Λ₀ .tc) α}
    {off : Fin 3 → ℕ} {h} (ho : off = ![(row l d).val, 0, 0])
    {hl : (woM : Memref sig .tc .vmem S12x256x128 .bf16).view.LoadsAt (Rect.unit (s := S12x256x128) off S1x256x128.size h).toLoadRect} :
    (Recving m K c n : sProp 𝕄)
      ⊢ iprop((Recving m K c n -∗ wp frame (wpE (defs₀ (F := F)) 𝒱₀ (c : Thread nD τ) none) Set.univ (k (rowValO m (row l d))) Q)
          -∗ wp frame (wpE (defs₀ (F := F)) 𝒱₀ (c : Thread nD τ) none) Set.univ
              (.op (.load woM (Rect.unit (s := S12x256x128) off S1x256x128.size h).toLoadRect hl) k) Q) := by
  subst ho
  iintro H Hk
  ihave H := (row_get m K c n l hn 1 d) $$ H
  icases H with ⟨%q, H, HB⟩
  unfold slot
  iapply (wp_load_rect 𝒱₀ (c : Thread nD τ) none Set.univ (m := woM) (r := rectO (row l d)) (S := (woRow (row l d)).view.set) (q := q) (f := gathO m) (Finset.Subset.refl _)) $$ H
  iintro H
  rw [show (woM.access (rectO (row l d))).read (Elt F) (gathO m) = rowValO m (row l d) from read_rowO m (row l d)]
  iapply Hk
  iapply HB
  iexact H

end Cert.GatherProof

end
-- ==== Proof.Rows.lean ====
/-
# Rows: the gather buffers as rows, and the rows as the four devices' blocks

The two gather buffers of a device, whole, are their twenty-four rows; the rows are sorted by the device whose block they
hold — the device's own, and those of its three peers.
-/
module

public import proofs.«01_k».proof.Proof.Waits

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ)
variable (c : Dev nD)

/-! ## Sums over devices, kinds and distances -/

theorem bigSep_kinds (Φ : Fin 2 → sProp 𝕄) : bigSep Finset.univ Φ = iprop(Φ 0 ∗ Φ 1) := bigSep_univ_eq_bigSepL [0, 1] (by decide) (by decide) Φ
theorem bigSep_threes (Φ : Fin 3 → sProp 𝕄) : bigSep Finset.univ Φ = iprop(Φ 0 ∗ Φ 1 ∗ Φ 2) := bigSep_univ_eq_bigSepL [0, 1, 2] (by decide) (by decide) Φ

/-- All devices are `c` and the three at the distances after it, -/
theorem bigSep_after (Φ : Dev nD → sProp 𝕄) : bigSep Finset.univ Φ = iprop(Φ c ∗ bigSep Finset.univ fun o : Fin 3 => Φ (peer c o)) := by
  rw [bigSep_threes]
  exact bigSep_univ_eq_bigSepL [c, peer c 0, peer c 1, peer c 2] (by revert c; decide) (by revert c; decide) Φ
/-- or `c` and the three before it. -/
theorem bigSep_before (Φ : Dev nD → sProp 𝕄) : bigSep Finset.univ Φ = iprop(Φ c ∗ bigSep Finset.univ fun o : Fin 3 => Φ (peer c o.rev)) := by
  rw [bigSep_threes]
  exact bigSep_univ_eq_bigSepL [c, peer c 2, peer c 1, peer c 0] (by revert c; decide) (by revert c; decide) Φ

theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), ← bigSep_univ_prod (fun x : B × A => Φ x.2 x.1)]
  exact bigSep_univ_equiv (Equiv.prodComm B A) (fun x : A × B => Φ x.1 x.2)

/-- A row is a layer and a device. -/
def rowEquiv : Fin 3 × Dev nD ≃ Fin 12 := ⟨fun x => row x.1 x.2, fun r => (rowL r, rowD r), fun x => Prod.ext (rowL_row x.1 x.2) (rowD_row x.1 x.2), row_rowL⟩
theorem bigSep_rows (Φ : Fin 12 → sProp 𝕄) : bigSep Finset.univ Φ = bigSep Finset.univ fun d : Dev nD => bigSep Finset.univ fun l : Fin 3 => Φ (row l d) := by
  rw [bigSep_univ_equiv rowEquiv Φ, bigSep_univ_prod, bigSep_swap]; rfl

/-- A resource per transfer, layer by layer. -/
theorem bigSep_steps (Φ : Step → sProp 𝕄) :
    bigSep Finset.univ Φ = bigSep Finset.univ fun o : Fin 3 => bigSep Finset.univ fun l : Fin 3 => bigSep Finset.univ fun k : Fin 2 => Φ (l, o, k) := by
  rw [bigSep_univ_prod, bigSep_congr fun l _ => bigSep_univ_prod fun x : Fin 3 × Fin 2 => Φ (l, x), bigSep_swap]

/-! ## The buffers -/

/-- A gather buffer, whole, is its twelve rows. -/
theorem wholeI (f : Buf (Elt F) ((c : Thread nD τ).loc cc0_scratch0)) :
    (((c : Thread nD τ).loc cc0_scratch0) ↦{fullShare} f : sProp 𝕄)
      = bigSep Finset.univ fun r : Fin 12 => ((wiRow r).view.loc (c : Thread nD τ) ↦[(wiRow r).view.set]{fullShare} f) := by
  have h : (Finset.univ : Finset (Idx ((c : Thread nD τ).loc cc0_scratch0))) = Finset.univ.biUnion fun r : Fin 12 => (wiRow r).view.set := by
    refine (Finset.eq_univ_iff_forall.mpr fun i => Finset.mem_biUnion.mpr ?_).symm
    exact ⟨i (0 : Fin 3), Finset.mem_univ _, (mem_rowI _ i).mpr rfl⟩
  have e := pointsTo_biUnion (Ix := Unit) (Name := ℕ) (U := UU) (Lvl := ℕ) (ℓ := (c : Thread nD τ).loc cc0_scratch0) (q := fullShare) (f := f) Finset.univ (fun r : Fin 12 => (wiRow r).view.set)
    fun r _ r' _ hne => Finset.disjoint_left.mpr fun i hi hi' => hne (Fin.ext (((mem_rowI r i).mp hi).symm.trans ((mem_rowI r' i).mp hi')))
  exact (congrArg (fun S => (((c : Thread nD τ).loc cc0_scratch0) ↦[S]{fullShare} f : sProp 𝕄)) h).trans e
/-- A gather buffer, whole, is its twelve rows. -/
theorem wholeO (f : Buf (Elt F) ((c : Thread nD τ).loc cc0_scratch1)) :
    (((c : Thread nD τ).loc cc0_scratch1) ↦{fullShare} f : sProp 𝕄)
      = bigSep Finset.univ fun r : Fin 12 => ((woRow r).view.loc (c : Thread nD τ) ↦[(woRow r).view.set]{fullShare} f) := by
  have h : (Finset.univ : Finset (Idx ((c : Thread nD τ).loc cc0_scratch1))) = Finset.univ.biUnion fun r : Fin 12 => (woRow r).view.set := by
    refine (Finset.eq_univ_iff_forall.mpr fun i => Finset.mem_biUnion.mpr ?_).symm
    exact ⟨i (0 : Fin 3), Finset.mem_univ _, (mem_rowO _ i).mpr rfl⟩
  have e := pointsTo_biUnion (Ix := Unit) (Name := ℕ) (U := UU) (Lvl := ℕ) (ℓ := (c : Thread nD τ).loc cc0_scratch1) (q := fullShare) (f := f) Finset.univ (fun r : Fin 12 => (woRow r).view.set)
    fun r _ r' _ hne => Finset.disjoint_left.mpr fun i hi hi' => hne (Fin.ext (((mem_rowO r i).mp hi).symm.trans ((mem_rowO r' i).mp hi')))
  exact (congrArg (fun S => (((c : Thread nD τ).loc cc0_scratch1) ↦[S]{fullShare} f : sProp 𝕄)) h).trans e

/-- The two gather buffers, whatever they hold, are the slots for the four devices' blocks. -/
theorem rows_split (f₀ : Buf (Elt F) ((c : Thread nD τ).loc cc0_scratch0)) (f₁ : Buf (Elt F) ((c : Thread nD τ).loc cc0_scratch1)) :
    iprop((((c : Thread nD τ).loc cc0_scratch0) ↦{fullShare} f₀) ∗ (((c : Thread nD τ).loc cc0_scratch1) ↦{fullShare} f₁))
      ⊢ (bigSep Finset.univ fun d : Dev nD => handed c d : sProp 𝕄) := by
  rw [wholeI, wholeO, ← bigSep_sep', bigSep_rows]
  refine bigSep_mono fun d _ => ?_
  unfold handed
  refine bigSep_mono fun l _ => ?_
  rw [bigSep_kinds]
  show iprop(((wiRow (row l d)).view.loc (c : Thread nD τ) ↦[(wiRow (row l d)).view.set]{fullShare} f₀) ∗ ((woRow (row l d)).view.loc (c : Thread nD τ) ↦[(woRow (row l d)).view.set]{fullShare} f₁))
    ⊢ (iprop((∃ f, (wiRow (row l d)).view.loc (c : Thread nD τ) ↦[(wiRow (row l d)).view.set]{fullShare} f) ∗ ∃ f, (woRow (row l d)).view.loc (c : Thread nD τ) ↦[(woRow (row l d)).view.set]{fullShare} f) : sProp 𝕄)
  iintro ⟨H0, H1⟩
  isplitl [H0]; · iexists f₀; iexact H0
  iexists f₁; iexact H1

/-- The slots of the four devices' blocks, all gathered, are the two buffers with the gathered contents. -/
theorem rows_join :
    (bigSep Finset.univ fun d : Dev nD => bigSep Finset.univ fun l : Fin 3 => bigSep Finset.univ fun k : Fin 2 => slot m k c (row l d) fullShare : sProp 𝕄)
      ⊢ iprop((((c : Thread nD τ).loc cc0_scratch0) ↦{fullShare} gathI m) ∗ (((c : Thread nD τ).loc cc0_scratch1) ↦{fullShare} gathO m)) := by
  rw [wholeI, wholeO, ← bigSep_sep', bigSep_rows]
  refine bigSep_mono fun d _ => bigSep_mono fun l _ => ?_
  rw [bigSep_kinds]
  exact BI.Entails.refl _

end Cert.GatherProof

end
-- ==== Proof.Sends.lean ====
/-
# Sends: the eighteen transfers start, two per stretch of the kernel

For every layer and every distance on the ring the kernel starts the transfer of the layer's `Win` block and that of its
`Wout` block to the device at that distance. Each stretch is a rule from `Sending` at its first transfer's place to
`Sending` two places on.
-/
module

public import proofs.«01_k».proof.Proof.Waits

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices and the rows the kernel computes -/

theorem dev1_eq (c : Dev nD) : (⟨k0_dev1 c, k0_dev1_lt c⟩ : Dev nD) = peer c 0 := by revert c; decide
theorem dev2_eq (c : Dev nD) : (⟨k0_dev2 c, k0_dev2_lt c⟩ : Dev nD) = peer c 1 := by revert c; decide
theorem dev3_eq (c : Dev nD) : (⟨k0_dev3 c, k0_dev3_lt c⟩ : Dev nD) = peer c 2 := by revert c; decide
theorem dev4_eq (c : Dev nD) : (⟨k0_dev4 c, k0_dev4_lt c⟩ : Dev nD) = peer c 0 := by revert c; decide
theorem dev5_eq (c : Dev nD) : (⟨k0_dev5 c, k0_dev5_lt c⟩ : Dev nD) = peer c 0 := by revert c; decide
theorem dev6_eq (c : Dev nD) : (⟨k0_dev6 c, k0_dev6_lt c⟩ : Dev nD) = peer c 1 := by revert c; decide
theorem dev7_eq (c : Dev nD) : (⟨k0_dev7 c, k0_dev7_lt c⟩ : Dev nD) = peer c 1 := by revert c; decide
theorem dev8_eq (c : Dev nD) : (⟨k0_dev8 c, k0_dev8_lt c⟩ : Dev nD) = peer c 2 := by revert c; decide
theorem dev9_eq (c : Dev nD) : (⟨k0_dev9 c, k0_dev9_lt c⟩ : Dev nD) = peer c 2 := by revert c; decide
theorem dev10_eq (c : Dev nD) : (⟨k0_dev10 c, k0_dev10_lt c⟩ : Dev nD) = peer c 0 := by revert c; decide
theorem dev11_eq (c : Dev nD) : (⟨k0_dev11 c, k0_dev11_lt c⟩ : Dev nD) = peer c 0 := by revert c; decide
theorem dev12_eq (c : Dev nD) : (⟨k0_dev12 c, k0_dev12_lt c⟩ : Dev nD) = peer c 1 := by revert c; decide
theorem dev13_eq (c : Dev nD) : (⟨k0_dev13 c, k0_dev13_lt c⟩ : Dev nD) = peer c 1 := by revert c; decide
theorem dev14_eq (c : Dev nD) : (⟨k0_dev14 c, k0_dev14_lt c⟩ : Dev nD) = peer c 2 := by revert c; decide
theorem dev15_eq (c : Dev nD) : (⟨k0_dev15 c, k0_dev15_lt c⟩ : Dev nD) = peer c 2 := by revert c; decide
theorem dev16_eq (c : Dev nD) : (⟨k0_dev16 c, k0_dev16_lt c⟩ : Dev nD) = peer c 0 := by revert c; decide
theorem dev17_eq (c : Dev nD) : (⟨k0_dev17 c, k0_dev17_lt c⟩ : Dev nD) = peer c 0 := by revert c; decide
theorem dev18_eq (c : Dev nD) : (⟨k0_dev18 c, k0_dev18_lt c⟩ : Dev nD) = peer c 1 := by revert c; decide
theorem dev19_eq (c : Dev nD) : (⟨k0_dev19 c, k0_dev19_lt c⟩ : Dev nD) = peer c 1 := by revert c; decide
theorem dev20_eq (c : Dev nD) : (⟨k0_dev20 c, k0_dev20_lt c⟩ : Dev nD) = peer c 2 := by revert c; decide
theorem dev21_eq (c : Dev nD) : (⟨k0_dev21 c, k0_dev21_lt c⟩ : Dev nD) = peer c 2 := by revert c; decide

theorem off3_layer0 (c : Dev nD) : k0_off3 c 0#32 = ![(row 0 c).val, 0, 0] := k0_off3_eq c 0
theorem off3_layer1 (c : Dev nD) : k0_off3 c 4#32 = ![(row 1 c).val, 0, 0] := k0_off3_eq c 1
theorem off3_layer2 (c : Dev nD) : k0_off3 c 8#32 = ![(row 2 c).val, 0, 0] := k0_off3_eq c 2
theorem off4_layer0 (c : Dev nD) : k0_off4 c 0#32 = ![(row 0 c).val, 0, 0] := k0_off4_eq c 0
theorem off4_layer1 (c : Dev nD) : k0_off4 c 4#32 = ![(row 1 c).val, 0, 0] := k0_off4_eq c 1
theorem off4_layer2 (c : Dev nD) : k0_off4 c 8#32 = ![(row 2 c).val, 0, 0] := k0_off4_eq c 2

variable (m : (ℓ : Loc nD τ sig) → Buf (Elt F) ℓ)
variable (K : Dev nD × Cell → ℕ)
variable (c : Dev nD)

/-! ## The stretches -/

/-- Layer 0's two blocks start towards the device at distance 1. -/
theorem part4 (v2 : BitVec 32) (v93 : BitVec 32) (v94 : BitVec 32) (v95 : BitVec 1) (v96 : BitVec 1) (v97 : BitVec 1) :
    (Sending m K c 0 : sProp 𝕄)
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v93 v94 v95 v96 v97)
          (fun r => Sending m K c 2) := by
  rw [k0_part4_eq_skeleton]; unfold k0_part4_skel
  simp only [Prog.lift, Prog.bind_op, Prog.bind_ret, Prog.pure_eq_ret]
  iintro H
  iapply (wp_send_wi m K c (0, 0, 0) rfl 0 rfl 1 rfl (sliceI_eq (row 0 c) (off3_layer0 c)) (sliceI_eq (row 0 c) (off3_layer0 c)) (dev4_eq c) rfl rfl) $$ H
  iintro H
  iapply (wp_send_wo m K c (0, 0, 1) rfl 1 rfl 2 rfl (sliceO_eq (row 0 c) (off4_layer0 c)) (sliceO_eq (row 0 c) (off4_layer0 c)) (dev5_eq c) rfl rfl) $$ H
  iintro H
  rw [wp_ret]; imodintro; iexact H

/-- Layer 0's two blocks start towards the device at distance 2. -/
theorem part5 (v2 : BitVec 32) (v122 : BitVec 32) (v123 : BitVec 32) (v124 : BitVec 1) (v125 : BitVec 1) (v126 : BitVec 1) :
    (Sending m K c 2 : sProp 𝕄)
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v122 v123 v124 v125 v126)
          (fun r => Sending m K c 4) := by
  rw [k0_part5_eq_skeleton]; unfold k0_part5_skel
  simp only [Prog.lift, Prog.bind_op, Prog.bind_ret, Prog.pure_eq_ret]
  iintro H
  iapply (wp_send_wi m K c (0, 1, 0) rfl 2 rfl 3 rfl (sliceI_eq (row 0 c) (off3_layer0 c)) (sliceI_eq (row 0 c) (off3_layer0 c)) (dev6_eq c) rfl rfl) $$ H
  iintro H
  iapply (wp_send_wo m K c (0, 1, 1) rfl 3 rfl 4 rfl (sliceO_eq (row 0 c) (off4_layer0 c)) (sliceO_eq (row 0 c) (off4_layer0 c)) (dev7_eq c) rfl rfl) $$ H
  iintro H
  rw [wp_ret]; imodintro; iexact H

/-- Layer 0's two blocks start towards the device at distance 3. -/
theorem part6 (v2 : BitVec 32) (v151 : BitVec 32) (v152 : BitVec 32) (v153 : BitVec 1) (v154 : BitVec 1) (v155 : BitVec 1) :
    (Sending m K c 4 : sProp 𝕄)
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v151 v152 v153 v154 v155)
          (fun r => Sending m K c 6) := by
  rw [k0_part6_eq_skeleton]; unfold k0_part6_skel
  simp only [Prog.lift, Prog.bind_op, Prog.bind_ret, Prog.pure_eq_ret]
  iintro H
  iapply (wp_send_wi m K c (0, 2, 0) rfl 4 rfl 5 rfl (sliceI_eq (row 0 c) (off3_layer0 c)) (sliceI_eq (row 0 c) (off3_layer0 c)) (dev8_eq c) rfl rfl) $$ H
  iintro H
  iapply (wp_send_wo m K c (0, 2, 1) rfl 5 rfl 6 rfl (sliceO_eq (row 0 c) (off4_layer0 c)) (sliceO_eq (row 0 c) (off4_layer0 c)) (dev9_eq c) rfl rfl) $$ H
  iintro H
  rw [wp_ret]; imodintro; iexact H

/-- Layer 1's two blocks start towards the device at distance 1. -/
theorem part7 (v2 : BitVec 32) (v180 : BitVec 32) (v181 : BitVec 32) (v182 : BitVec 1) (v183 : BitVec 1) (v184 : BitVec 1) :
    (Sending m K c 6 : sProp 𝕄)
      ⊢ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v180 v181 v182 v183 v184)
          (fun r => Sending m K c 8) := by
  rw [k0_part7_eq_skeleton]; unfold k0_part7_skel
  simp only [Prog.lift, Prog.bind_op, Prog.bind_ret, Prog.pure_eq_ret]
  iintro H
  iapply (wp_send_wi m K c (1, 0, 0) rfl 6 rfl 7 rfl (sliceI_eq (row 1 c) (off3_layer1 c)) (sliceI_eq (row 1 c) (off3_layer1 c)) (dev10_eq c) rfl rfl) $$ H
  iintro H
  iapply (wp_send_wo m K c (1, 0, 1) rfl 7 rfl 8 rfl (sliceO_eq (row 1 c) (off4_layer1 c)) (sliceO_eq (row 1 c) (off4_layer1 c)) (dev11_eq c) rfl rfl) $$ H
  iintro H
  rw [wp_ret]; imodintro; iexact H

/-- Layer 1's two blocks start towards the device at distance 2. -/
theorem part8 (v2 : BitVec 32) (v209 : BitVec 32) (v210 : BitVec 32) (v211 : BitVec 1) (v212 : BitVec 1) (v213 : BitVec 1) :
    (Sending m K c 8 : sProp 𝕄)
      ⊢ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v209 v210 v211 v212 v213)
          (fun r => Sending m K c 10) := by
  rw [k0_part8_eq_skeleton]; unfold k0_part8_skel
  simp only [Prog.lift, Prog.bind_op, Prog.bind_ret, Prog.pure_eq_ret]
  iintro H
  iapply (wp_send_wi m K c (1, 1, 0) rfl 8 rfl 9 rfl (sliceI_eq (row 1 c) (off3_layer1 c)) (sliceI_eq (row 1 c) (off3_layer1 c)) (dev12_eq c) rfl rfl) $$ H
  iintro H
  iapply (wp_send_wo m K c (1, 1, 1) rfl 9 rfl 10 rfl (sliceO_eq (row 1 c) (off4_layer1 c)) (sliceO_eq (row 1 c) (off4_layer1 c)) (dev13_eq c) rfl rfl) $$ H
  iintro H
  rw [wp_ret]; imodintro; iexact H

/-- Layer 1's two blocks start towards the device at distance 3. -/
theorem part9 (v2 : BitVec 32) (v238 : BitVec 32) (v239 : BitVec 32) (v240 : BitVec 1) (v241 : BitVec 1) (v242 : BitVec 1) :
    (Sending m K c 10 : sProp 𝕄)
      ⊢ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v238 v239 v240 v241 v242)
          (fun r => Sending m K c 12) := by
  rw [k0_part9_eq_skeleton]; unfold k0_part9_skel
  simp only [Prog.lift, Prog.bind_op, Prog.bind_ret, Prog.pure_eq_ret]
  iintro H
  iapply (wp_send_wi m K c (1, 2, 0) rfl 10 rfl 11 rfl (sliceI_eq (row 1 c) (off3_layer1 c)) (sliceI_eq (row 1 c) (off3_layer1 c)) (dev14_eq c) rfl rfl) $$ H
  iintro H
  iapply (wp_send_wo m K c (1, 2, 1) rfl 11 rfl 12 rfl (sliceO_eq (row 1 c) (off4_layer1 c)) (sliceO_eq (row 1 c) (off4_layer1 c)) (dev15_eq c) rfl rfl) $$ H
  iintro H
  rw [wp_ret]; imodintro; iexact H

/-- Layer 2's two blocks start towards the device at distance 1. -/
theorem part10 (v2 : BitVec 32) (v267 : BitVec 32) (v268 : BitVec 32) (v269 : BitVec 1) (v270 : BitVec 1) (v271 : BitVec 1) :
    (Sending m K c 12 : sProp 𝕄)
      ⊢ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v267 v268 v269 v270 v271)
          (fun r => Sending m K c 14) := by
  rw [k0_part10_eq_skeleton]; unfold k0_part10_skel
  simp only [Prog.lift, Prog.bind_op, Prog.bind_ret, Prog.pure_eq_ret]
  iintro H
  iapply (wp_send_wi m K c (2, 0, 0) rfl 12 rfl 13 rfl (sliceI_eq (row 2 c) (off3_layer2 c)) (sliceI_eq (row 2 c) (off3_layer2 c)) (dev16_eq c) rfl rfl) $$ H
  iintro H
  iapply (wp_send_wo m K c (2, 0, 1) rfl 13 rfl 14 rfl (sliceO_eq (row 2 c) (off4_layer2 c)) (sliceO_eq (row 2 c) (off4_layer2 c)) (dev17_eq c) rfl rfl) $$ H
  iintro H
  rw [wp_ret]; imodintro; iexact H

/-- Layer 2's two blocks start towards the device at distance 2. -/
theorem part11 (v2 : BitVec 32) (v296 : BitVec 32) (v297 : BitVec 32) (v298 : BitVec 1) (v299 : BitVec 1) (v300 : BitVec 1) :
    (Sending m K c 14 : sProp 𝕄)
      ⊢ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v296 v297 v298 v299 v300)
          (fun r => Sending m K c 16) := by
  rw [k0_part11_eq_skeleton]; unfold k0_part11_skel
  simp only [Prog.lift, Prog.bind_op, Prog.bind_ret, Prog.pure_eq_ret]
  iintro H
  iapply (wp_send_wi m K c (2, 1, 0) rfl 14 rfl 15 rfl (sliceI_eq (row 2 c) (off3_layer2 c)) (sliceI_eq (row 2 c) (off3_layer2 c)) (dev18_eq c) rfl rfl) $$ H
  iintro H
  iapply (wp_send_wo m K c (2, 1, 1) rfl 15 rfl 16 rfl (sliceO_eq (row 2 c) (off4_layer2 c)) (sliceO_eq (row 2 c) (off4_layer2 c)) (dev19_eq c) rfl rfl) $$ H
  iintro H
  rw [wp_ret]; imodintro; iexact H

end Cert.GatherProof

end
-- ==== Proof.Receives.lean ====
/-
# Receives: the arrivals, layer by layer, and the layers' values

Before a layer the kernel waits for the six blocks the other devices sent for it; then it reads the layer's four blocks of
either kind and computes. `layer0`, `layer1`, `layer2` are the three layers' values from the value before. The stretch of
the last layer also writes the result.
-/
module

public import proofs.«01_k».proof.Proof.Waits

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ)
variable (c : Dev nD)

/-! ## The layers' values -/

/-- The first layer, over the gathered blocks of layer 0. -/
def layer0 (x : FVec F S128x128 .bf16) : FVec F S128x128 .bf16 :=
  k0_pay10 x (k0_pay8 x (rowValI m (row 0 0)) (rowValO m (row 0 0))) (k0_pay9 x (rowValI m (row 0 1))) (rowValO m (row 0 1)) (rowValI m (row 0 2)) (rowValO m (row 0 2)) (rowValI m (row 0 3)) (rowValO m (row 0 3))
/-- The second. -/
def layer1 (x : FVec F S128x128 .bf16) : FVec F S128x128 .bf16 :=
  k0_pay13 x (k0_pay11 x (rowValI m (row 1 0)) (rowValO m (row 1 0))) (k0_pay12 (rowValI m (row 1 1))) (constant S128x256 .f32 0x00000000#32) (rowValO m (row 1 1)) (rowValI m (row 1 2)) (rowValO m (row 1 2)) (rowValI m (row 1 3)) (rowValO m (row 1 3))
/-- The third, in the result's type. -/
def layer2 (x : FVec F S128x128 .bf16) : FVec F S128x128 .f32 :=
  k0_pay16 x (k0_pay14 x (rowValI m (row 2 0)) (rowValO m (row 2 0))) (k0_pay15 (rowValI m (row 2 1))) (rowValO m (row 2 1)) (rowValI m (row 2 2)) (rowValO m (row 2 2)) (rowValI m (row 2 3)) (rowValO m (row 2 3))
/-- What the kernel writes on device `c`. -/
def outAt : FVec F S128x128 .f32 := layer2 m (layer1 m (layer0 m (k0_pay7 (stX m c))))

/-! ## The stretches -/

/-- A staging buffer, whole, at `X`. -/
abbrev staged (b : Ref sig .tc) (X : b.ty.Contents (Elt F)) : sProp 𝕄 := (((c : Thread nD τ).loc b) ↦{fullShare} X)

theorem zeros : (![0, 0] : Fin 2 → ℕ) = fun _ => 0 := funext fun a => by fin_cases a <;> rfl
/-- Storing a whole block over the result's staging buffer leaves that block. -/
theorem write_out (f w : (cc0_stg7_0 : Ref sig .tc).ty.Contents (Elt F)) :
    ((Memref.whole cc0_stg7_0 : Memref sig .tc .vmem S128x128 .f32).access (Rect.unit (s := S128x128) ![0, 0] S128x128.size inb_S128x128_S128x128_0_0) : View sig .tc _ _ _).write (Elt F) f w Finset.univ = w :=
  Memref.write_access_unit_zero_univ (Elt F) cc0_stg7_0 zeros _ f w

/-- One block of layer 0 arrives. -/
theorem part13 (v2 : BitVec 32) (v356 : BitVec 32) (v357 : BitVec 32) (v358 : BitVec 1) :
    (Recving m K c 0 : sProp 𝕄)
      ⊢ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v356 v357 v358)
          (fun r => Recving m K c 1) := by
  rw [k0_part13_eq_skeleton]; unfold k0_part13_skel
  simp only [Prog.lift, Prog.bind_op, Prog.bind_ret, Prog.pure_eq_ret]
  iintro H
  iapply (wp_recv_wi m K c (0, 0, 0) 0 rfl 1 rfl rfl) $$ H; iintro H
  rw [wp_ret]; imodintro; iexact H

/-- Two blocks of layer 0 arrive. -/
theorem part14 (v2 : BitVec 32) :
    (Recving m K c 1 : sProp 𝕄)
      ⊢ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2)
          (fun r => Recving m K c 3) := by
  rw [k0_part14_eq_skeleton]; unfold k0_part14_skel
  simp only [Prog.lift, Prog.bind_op, Prog.bind_ret, Prog.pure_eq_ret]
  iintro H
  iapply (wp_recv_wo m K c (0, 0, 1) 1 rfl 2 rfl rfl) $$ H; iintro H
  iapply (wp_recv_wi m K c (0, 1, 0) 2 rfl 3 rfl rfl) $$ H; iintro H
  rw [wp_ret]; imodintro; iexact H

/-- Two blocks of layer 0 arrive. -/
theorem part15 (v2 : BitVec 32) (v418 : BitVec 32) (c0_i32_379 : BitVec 32) :
    (Recving m K c 3 : sProp 𝕄)
      ⊢ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v418 c0_i32_379)
          (fun r => Recving m K c 5) := by
  rw [k0_part15_eq_skeleton]; unfold k0_part15_skel
  simp only [Prog.lift, Prog.bind_op, Prog.bind_ret, Prog.pure_eq_ret]
  iintro H
  iapply (wp_recv_wo m K c (0, 1, 1) 3 rfl 4 rfl rfl) $$ H; iintro H
  iapply (wp_recv_wi m K c (0, 2, 0) 4 rfl 5 rfl rfl) $$ H; iintro H
  rw [wp_ret]; imodintro; iexact H

/-- One block of layer 0 arrives, and the layer begins with its first blocks. -/
theorem part16 (v2 : BitVec 32) (v353 : FVec F S128x128 .bf16) (v444 : BitVec 32) (c4_i32_409 : BitVec 32) (v445 : BitVec 1) :
    (Recving m K c 5 : sProp 𝕄)
      ⊢ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v353 v444 c4_i32_409 v445)
          (fun r => iprop(⌜r.1 = k0_pay8 v353 (rowValI m (row 0 0)) (rowValO m (row 0 0)) ∧ r.2 = k0_pay9 v353 (rowValI m (row 0 1))⌝ ∗ Recving m K c 6)) := by
  rw [k0_part16_eq_skeleton]; unfold k0_part16_skel
  simp only [Prog.lift, Prog.bind_op, Prog.bind_ret, Prog.pure_eq_ret]
  iintro H
  iapply (wp_recv_wo m K c (0, 2, 1) 5 rfl 6 rfl rfl) $$ H; iintro H
  iapply (wp_load_wi m K c 6 0 (by decide) 0 (off := ![0, 0, 0]) rfl) $$ H; iintro H
  iapply (wp_load_wo m K c 6 0 (by decide) 0 (off := ![0, 0, 0]) rfl) $$ H; iintro H
  iapply (wp_load_wi m K c 6 0 (by decide) 1 (off := ![1, 0, 0]) rfl) $$ H; iintro H
  rw [wp_ret]; imodintro
  isplitr; · ipureintro; exact ⟨rfl, rfl⟩
  iexact H

/-- Layer 0 is finished from its remaining blocks. -/
theorem part17 (v2 : BitVec 32) (v353 : FVec F S128x128 .bf16) (v472 : FVec F S128x128 .f32) (v475 : FVec F S128x256 .f32) :
    (Recving m K c 6 : sProp 𝕄)
      ⊢ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 v2 v353 v472 v475)
          (fun r => iprop(⌜r.1 = k0_pay10 v353 v472 v475 (rowValO m (row 0 1)) (rowValI m (row 0 2)) (rowValO m (row 0 2)) (rowValI m (row 0 3)) (rowValO m (row 0 3))⌝ ∗ Recving m K c 6)) := by
  rw [k0_part17_eq_skeleton]; unfold k0_part17_skel
  simp only [Prog.lift, Prog.bind_op, Prog.bind_ret, Prog.pure_eq_ret]
  iintro H
  iapply (wp_load_wo m K c 6 0 (by decide) 1 (off := ![1, 0, 0]) rfl) $$ H; iintro H
  iapply (wp_load_wi m K c 6 0 (by decide) 2 (off := ![2, 0, 0]) rfl) $$ H; iintro H
  iapply (wp_load_wo m K c 6 0 (by decide) 2 (off := ![2, 0, 0]) rfl) $$ H; iintro H
  iapply (wp_load_wi m K c 6 0 (by decide) 3 (off := ![3, 0, 0]) rfl) $$ H; iintro H
  iapply (wp_load_wo m K c 6 0 (by decide) 3 (off := ![3, 0, 0]) rfl) $$ H; iintro H
  rw [wp_ret]; imodintro
  isplitr; · ipureintro; exact rfl
  iexact H

/-- One block of layer 1 arrives. -/
theorem part18 (v2 : BitVec 32) (v506 : BitVec 32) (v507 : BitVec 32) (c0_i32_463 : BitVec 32) :
    (Recving m K c 6 : sProp 𝕄)
      ⊢ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v506 v507 c0_i32_463)
          (fun r => Recving m K c 7) := by
  rw [k0_part18_eq_skeleton]; unfold k0_part18_skel
  simp only [Prog.lift, Prog.bind_op, Prog.bind_ret, Prog.pure_eq_ret]
  iintro H
  iapply (wp_recv_wi m K c (1, 0, 0) 6 rfl 7 rfl rfl) $$ H; iintro H
  rw [wp_ret]; imodintro; iexact H

/-- Two blocks of layer 1 arrive. -/
theorem part19 (v2 : BitVec 32) :
    (Recving m K c 7 : sProp 𝕄)
      ⊢ wp frame (wpE (defs₀ (F := F)) 𝒱₀ (c : Thread nD τ) none) Set.univ
          (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2)
          (fun r => Recving m K c 9) := by
  rw [k0_part19_eq_skeleton]; unfold k0_part19_skel
  simp only [Prog.lift, Prog.bind_op, Prog.bind_ret, Prog.pure_eq_ret]
  iintro H
  iapply (wp_recv_wo m K c (1, 0, 1) 7 rfl 8 rfl rfl) $$ H; iintro H
  iapply (wp_recv_wi m K c (1, 1, 0) 8 rfl 9 rfl rfl) $$ H; iintro H
  rw [wp_ret]; imodintro; iexact H

/-- Two blocks of layer 1 arrive. -/
theorem part20 (v2 : BitVec 32) (v568 : BitVec 32) :
    (Recving m K c 9 : sProp 𝕄)
      ⊢ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v568)
          (fun r => Recving m K c 11) := by
  rw [k0_part20_eq_skeleton]; unfold k0_part20_skel
  simp only [Prog.lift, Prog.bind_op, Prog.bind_ret, Prog.pure_eq_ret]
  iintro H
  iapply (wp_recv_wo m K c (1, 1, 1) 9 rfl 10 rfl rfl) $$ H; iintro H
  iapply (wp_recv_wi m K c (1, 2, 0) 10 rfl 11 rfl rfl) $$ H; iintro H
  rw [wp_ret]; imodintro; iexact H

/-- One block of layer 1 arrives, and the layer begins with its first blocks. -/
theorem part21 (v2 : BitVec 32) (v503 : FVec F S128x128 .bf16) (v594 : BitVec 32) (c4_i32_550 : BitVec 32) (c0_i32_551 : BitVec 32) :
    (Recving m K c 11 : sProp 𝕄)
      ⊢ wp frame (wpE (defs₀ (F := F)) 𝒱₀ (c : Thread nD τ) none) Set.univ
          (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v503 v594 c4_i32_550 c0_i32_551)
          (fun r => iprop(⌜r.1 = k0_pay11 v503 (rowValI m (row 1 0)) (rowValO m (row 1 0)) ∧ r.2.1 = k0_pay12 (rowValI m (row 1 1)) ∧ r.2.2 = constant S128x256 .f32 0x00000000#32⌝ ∗ Recving m K c 12)) := by
  rw [k0_part21_eq_skeleton]; unfold k0_part21_skel
  simp only [Prog.lift, Prog.bind_op, Prog.bind_ret, Prog.pure_eq_ret]
  iintro H
  iapply (wp_recv_wo m K c (1, 2, 1) 11 rfl 12 rfl rfl) $$ H; iintro H
  iapply (wp_load_wi m K c 12 1 (by decide) 0 (off := ![4, 0, 0]) rfl) $$ H; iintro H
  iapply (wp_load_wo m K c 12 1 (by decide) 0 (off := ![4, 0, 0]) rfl) $$ H; iintro H
  iapply (wp_load_wi m K c 12 1 (by decide) 1 (off := ![5, 0, 0]) rfl) $$ H; iintro H
  rw [wp_ret]; imodintro
  isplitr; · ipureintro; exact ⟨rfl, rfl, rfl⟩
  iexact H

/-- Layer 1 is finished from its remaining blocks. -/
theorem part22 (v2 : BitVec 32) (v503 : FVec F S128x128 .bf16) (v622 : FVec F S128x128 .f32) (v624 : FVec F S128x256 .bf16) (cst_578 : FVec F S128x256 .f32) :
    (Recving m K c 12 : sProp 𝕄)
      ⊢ wp frame (wpE (defs₀ (F := F)) 𝒱₀ (c : Thread nD τ) none) Set.univ
          (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 v2 v503 v622 v624 cst_578)
          (fun r => iprop(⌜r.1 = k0_pay13 v503 v622 v624 cst_578 (rowValO m (row 1 1)) (rowValI m (row 1 2)) (rowValO m (row 1 2)) (rowValI m (row 1 3)) (rowValO m (row 1 3))⌝ ∗ Recving m K c 12)) := by
  rw [k0_part22_eq_skeleton]; unfold k0_part22_skel
  simp only [Prog.lift, Prog.bind_op, Prog.bind_ret, Prog.pure_eq_ret]
  iintro H
  iapply (wp_load_wo m K c 12 1 (by decide) 1 (off := ![5, 0, 0]) rfl) $$ H; iintro H
  iapply (wp_load_wi m K c 12 1 (by decide) 2 (off := ![6, 0, 0]) rfl) $$ H; iintro H
  iapply (wp_load_wo m K c 12 1 (by decide) 2 (off := ![6, 0, 0]) rfl) $$ H; iintro H
  iapply (wp_load_wi m K c 12 1 (by decide) 3 (off := ![7, 0, 0]) rfl) $$ H; iintro H
  iapply (wp_load_wo m K c 12 1 (by decide) 3 (off := ![7, 0, 0]) rfl) $$ H; iintro H
  rw [wp_ret]; imodintro
  isplitr; · ipureintro; exact rfl
  iexact H

/-- One block of layer 2 arrives. -/
theorem part23 (v2 : BitVec 32) (v656 : BitVec 32) (v657 : BitVec 32) :
    (Recving m K c 12 : sProp 𝕄)
      ⊢ wp frame (wpE (defs₀ (F := F)) 𝒱₀ (c : Thread nD τ) none) Set.univ
          (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v656 v657)
          (fun r => Recving m K c 13) := by
  rw [k0_part23_eq_skeleton]; unfold k0_part23_skel
  simp only [Prog.lift, Prog.bind_op, Prog.bind_ret, Prog.pure_eq_ret]
  iintro H
  iapply (wp_recv_wi m K c (2, 0, 0) 12 rfl 13 rfl rfl) $$ H; iintro H
  rw [wp_ret]; imodintro; iexact H

/-- Two blocks of layer 2 arrive. -/
theorem part24 (v2 : BitVec 32) :
    (Recving m K c 13 : sProp 𝕄)
      ⊢ wp frame (wpE (defs₀ (F := F)) 𝒱₀ (c : Thread nD τ) none) Set.univ
          (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2)
          (fun r => Recving m K c 15) := by
  rw [k0_part24_eq_skeleton]; unfold k0_part24_skel
  simp only [Prog.lift, Prog.bind_op, Prog.bind_ret, Prog.pure_eq_ret]
  iintro H
  iapply (wp_recv_wo m K c (2, 0, 1) 13 rfl 14 rfl rfl) $$ H; iintro H
  iapply (wp_recv_wi m K c (2, 1, 0) 14 rfl 15 rfl rfl) $$ H; iintro H
  rw [wp_ret]; imodintro; iexact H

/-- Two blocks of layer 2 arrive. -/
theorem part25 (v2 : BitVec 32) (v711 : BitVec 32) (v716 : BitVec 1) (v717 : BitVec 32) :
    (Recving m K c 15 : sProp 𝕄)
      ⊢ wp frame (wpE (defs₀ (F := F)) 𝒱₀ (c : Thread nD τ) none) Set.univ
          (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v711 v716 v717)
          (fun r => Recving m K c 17) := by
  rw [k0_part25_eq_skeleton]; unfold k0_part25_skel
  simp only [Prog.lift, Prog.bind_op, Prog.bind_ret, Prog.pure_eq_ret]
  iintro H
  iapply (wp_recv_wo m K c (2, 1, 1) 15 rfl 16 rfl rfl) $$ H; iintro H
  iapply (wp_recv_wi m K c (2, 2, 0) 16 rfl 17 rfl rfl) $$ H; iintro H
  rw [wp_ret]; imodintro; iexact H

/-- One block of layer 2 arrives, and the layer begins with its first blocks. -/
theorem part26 (v2 : BitVec 32) (v653 : FVec F S128x128 .bf16) (v744 : BitVec 32) (c4_i32_691 : BitVec 32) :
    (Recving m K c 17 : sProp 𝕄)
      ⊢ wp frame (wpE (defs₀ (F := F)) 𝒱₀ (c : Thread nD τ) none) Set.univ
          (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v653 v744 c4_i32_691)
          (fun r => iprop(⌜r.1 = k0_pay14 v653 (rowValI m (row 2 0)) (rowValO m (row 2 0)) ∧ r.2 = k0_pay15 (rowValI m (row 2 1))⌝ ∗ Recving m K c 18)) := by
  rw [k0_part26_eq_skeleton]; unfold k0_part26_skel
  simp only [Prog.lift, Prog.bind_op, Prog.bind_ret, Prog.pure_eq_ret]
  iintro H
  iapply (wp_recv_wo m K c (2, 2, 1) 17 rfl 18 rfl rfl) $$ H; iintro H
  iapply (wp_load_wi m K c 18 2 (by decide) 0 (off := ![8, 0, 0]) rfl) $$ H; iintro H
  iapply (wp_load_wo m K c 18 2 (by decide) 0 (off := ![8, 0, 0]) rfl) $$ H; iintro H
  iapply (wp_load_wi m K c 18 2 (by decide) 1 (off := ![9, 0, 0]) rfl) $$ H; iintro H
  rw [wp_ret]; imodintro
  isplitr; · ipureintro; exact ⟨rfl, rfl⟩
  iexact H

/-- Layer 2 is finished and written to the result. -/
theorem part27 (v653 : FVec F S128x128 .bf16) (v772 : FVec F S128x128 .f32) (v774 : FVec F S128x256 .bf16) :
    iprop(Recving m K c 18 ∗ ∃ X, staged c cc0_stg7_0 X)
      ⊢ wp frame (wpE (defs₀ (F := F)) 𝒱₀ (c : Thread nD τ) none) Set.univ
          (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 v653 v772 v774)
          (fun r => iprop(Recving m K c 18 ∗ staged c cc0_stg7_0 (k0_pay16 v653 v772 v774 (rowValO m (row 2 1)) (rowValI m (row 2 2)) (rowValO m (row 2 2)) (rowValI m (row 2 3)) (rowValO m (row 2 3))))) := by
  rw [k0_part27_eq_skeleton]; unfold k0_part27_skel
  simp only [Prog.lift, Prog.bind_op, Prog.bind_ret, Prog.pure_eq_ret]
  iintro ⟨H, ⟨%X, Hout⟩⟩
  iapply (wp_load_wo m K c 18 2 (by decide) 1 (off := ![9, 0, 0]) rfl) $$ H; iintro H
  iapply (wp_load_wi m K c 18 2 (by decide) 2 (off := ![10, 0, 0]) rfl) $$ H; iintro H
  iapply (wp_load_wo m K c 18 2 (by decide) 2 (off := ![10, 0, 0]) rfl) $$ H; iintro H
  iapply (wp_load_wi m K c 18 2 (by decide) 3 (off := ![11, 0, 0]) rfl) $$ H; iintro H
  iapply (wp_load_wo m K c 18 2 (by decide) 3 (off := ![11, 0, 0]) rfl) $$ H; iintro H
  iapply (wp_load 𝒱₀ (c : Thread nD τ) none Set.univ (m := Memref.whole cc0_stg7_0) (S := Finset.univ) (Finset.subset_univ _)) $$ Hout; iintro Hout
  iapply (wp_store 𝒱₀ (c : Thread nD τ) none Set.univ (m := Memref.whole cc0_stg7_0) (r := Rect.unit (s := S128x128) ![0, 0] S128x128.size inb_S128x128_S128x128_0_0) (Mk := Finset.univ) (S := Finset.univ) (Finset.subset_univ _)) $$ Hout; iintro Hout
  rw [write_out, wp_ret]; imodintro
  isplitl [H]; · iexact H
  iexact Hout

end Cert.GatherProof

end
-- ==== Proof.Handshake.lean ====
/-
# Handshake: the meeting before the first transfer, and the own rows

The kernel tells every other device that its slots are free, writes its own blocks into its own rows of the gather
buffers, and waits until the other three have said the same. After that every transfer may start.
-/
module

public import proofs.«01_k».proof.Proof.Rows
public import proofs.«01_k».proof.Proof.Sends
public import proofs.«01_k».proof.Proof.Receives

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ)
variable (c : Dev nD)

/-! ## Signals to the other devices and the wait for theirs -/

/-- A signal to the device at distance `o + 1` hands it the slots its own blocks go to. -/
theorem wp_tell (o j : Fin 3) (hj : j = o.rev) {n : Dev nD} (hn : n = peer c o) {O O' : CellTallies nD τ sig Unit} (hO : O' = O + tallyAt (barCell (peer c o)) () 1)
    {k' : ℕ} (hk : 1 = k') {α : Type} {Q : α → sProp 𝕄} {k : PUnit → Prog (TpuEff nD τ sig (Elt F) Λ₀ .tc) α} :
    (iprop(records m K ∗ owing c O' ∗ dutyTok ER (barCell (peer c o)) 0 j ∗ handed c (peer c o)) : sProp 𝕄)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hj hn hk
  unfold Cert.GatherProof.owing
  iintro ⟨#HR, ⟨%W, HO⟩, Ht, Hp⟩ Hk
  iapply (Rounds.wp_signal 𝒱₀ ER (Rd m) (c : Thread nD τ) none (dst := (peer c o : Thread nD τ)) (κ := K (peer c o, cBar))
      (d := o.rev) (by rw [duties_bar]; exact Finset.mem_univ _) rfl () O hO) $$ [HO Ht Hp]
  · isplitr; · iapply (inv_at m K (peer c o, cBar)); iexact HR
    isplitl [HO]; · iexact HO
    isplitl [Ht]; · iexact Ht
    isplitl [Hp]
    · rw [pay_bar, peer_rev]; iexact Hp
    · iapply (reached_at m K (peer c o, cBar)); iexact HR
  iintro HO
  iapply Hk
  iexists W; iexact HO

/-- The wait for the three other devices: their slots for this device's blocks, and the barrier cell at zero for good. -/
theorem wp_meet {k' : ℕ} (hk : 3 = k') {α : Type} {Q : α → sProp 𝕄} {k : PUnit → Prog (TpuEff nD τ sig (Elt F) Λ₀ .tc) α} :
    (iprop(records m K ∗ levAts L lv ∗ owing c (owedS c 0) ∗ atPos ER (barCell c) 0 ∅ 0 ∗ cred (tallyAt (barCell c) () 3)) : sProp 𝕄)
      ⊢ iprop((iprop(owing c (owedS c 0) ∗ semVal (barCell c) 0 ∗ bigSep Finset.univ fun j : Fin 3 => handed (peer c j) c)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold Cert.GatherProof.owing
  iintro ⟨#HR, #Hlev, ⟨%W, HO⟩, Hat, Hc⟩ Hk
  iapply (Rounds.wp_wait_rest_token 𝒱₀ ER (Rd m) (c : Thread nD τ) none (κ := K (c, cBar))
      (wpE_semWait_eq 𝒱₀ (c : Thread nD τ) none Set.univ) (Set.mem_univ _) () (O := owedS c 0) (W := W) (R := 0) (m := 0) (T := ∅)
      (by rw [expect_bar])) $$ [Hc HO Hat]
  · isplitr; · iapply (inv_at m K (c, cBar)); iexact HR
    isplitl [Hc]; · iexact Hc
    isplitl [HO]; · iexact HO
    isplitr; · iapply (mayWait_bar c); iexact Hlev
    iexact Hat
  iintro ⟨HO, Hat, -, Hpay⟩
  ihave Hs := (Entails.of_eq (rest_bar m c)) $$ Hpay
  imod (Rounds.cell_close ER (Rd m) (Set.mem_univ (K (c, cBar))) (fun h => h) (R := 0 + 1) (duties_later m (barCell c))) $$ [Hat] with Hz
  · isplitr; · iapply (inv_at m K (c, cBar)); iexact HR
    iexact Hat
  iapply Hk
  isplitl [HO]; · iexists _; iexact HO
  isplitl [Hz]; · iexact Hz
  iexact Hs

/-! ## The own rows -/

/-- A read of an own row before anything is there, its value ignored. -/
theorem wp_peek_wi (l : Fin 3) {α : Type} {Q : α → sProp 𝕄} {k : Vec F S1x128x256 .bf16 → Prog (TpuEff nD τ sig (Elt F) Λ₀ .tc) α}
    {off : Fin 3 → ℕ} {h} (ho : off = ![(row l c).val, 0, 0])
    {hl : (wiM : Memref sig .tc .vmem S12x128x256 .bf16).view.LoadsAt (Rect.unit (s := S12x128x256) off S1x128x256.size h).toLoadRect} :
    (slotAny 0 c (row l c) : sProp 𝕄)
      ⊢ iprop((∀ v, slotAny 0 c (row l c) -∗ wp frame (wpE (defs₀ (F := F)) 𝒱₀ (c : Thread nD τ) none) Set.univ (k v) Q)
          -∗ wp frame (wpE (defs₀ (F := F)) 𝒱₀ (c : Thread nD τ) none) Set.univ (.op (.load wiM (Rect.unit (s := S12x128x256) off S1x128x256.size h).toLoadRect hl) k) Q) := by
  subst ho
  unfold slotAny
  iintro ⟨%f, H⟩ Hk
  iapply (wp_load_rect 𝒱₀ (c : Thread nD τ) none Set.univ (m := wiM) (r := rectI (row l c)) (S := (wiRow (row l c)).view.set) (q := fullShare) (f := f) (Finset.Subset.refl _)) $$ H
  iintro H
  iapply Hk
  iexists f; iexact H

/-- The device's own block written into its own row. -/
theorem wp_fill_wi (l : Fin 3) {α : Type} {Q : α → sProp 𝕄} {k : PUnit → Prog (TpuEff nD τ sig (Elt F) Λ₀ .tc) α}
    {off : Fin 3 → ℕ} {h} (ho : off = ![(row l c).val, 0, 0]) {w : (Rect.unit (s := S12x128x256) off S1x128x256.size h).shape.Idx → Elt F .bf16} (hw : w = k0_pay1 (stI m l c))
    {hx : ((wiM : Memref sig .tc .vmem S12x128x256 .bf16).access (Rect.unit (s := S12x128x256) off S1x128x256.size h)).Stores Finset.univ} {hm} :
    (slotAny 0 c (row l c) : sProp 𝕄)
      ⊢ iprop((slot m 0 c (row l c) fullShare -∗ wp frame (wpE (defs₀ (F := F)) 𝒱₀ (c : Thread nD τ) none) Set.univ (k ⟨⟩) Q)
          -∗ wp frame (wpE (defs₀ (F := F)) 𝒱₀ (c : Thread nD τ) none) Set.univ (.op (.store wiM (Rect.unit (s := S12x128x256) off S1x128x256.size h) w Finset.univ hx hm) k) Q) := by
  subst ho
  have hw' : w = rowValI m (row l c) := by rw [hw]; unfold rowValI; rw [rowL_row, rowD_row]
  subst hw'
  unfold slotAny
  iintro ⟨%f, H⟩ Hk
  iapply (wp_store 𝒱₀ (c : Thread nD τ) none Set.univ (m := wiM) (r := rectI (row l c)) (Mk := Finset.univ) (S := (wiRow (row l c)).view.set) (f := f) (Finset.Subset.refl _)) $$ H
  iintro H
  iapply Hk
  have e : (((wiRow (row l c)).view.loc (c : Thread nD τ) ↦[(wiRow (row l c)).view.set]{fullShare} ((wiM.access (rectI (row l c))).write (Elt F) f (rowValI m (row l c)) Finset.univ)) : sProp 𝕄)
      = slot m 0 c (row l c) fullShare := pointsTo_congr (write_rowI m (row l c) f)
  ihave H := (Entails.of_eq e) $$ H
  iexact H

/-- A read of an own row before anything is there, its value ignored. -/
theorem wp_peek_wo (l : Fin 3) {α : Type} {Q : α → sProp 𝕄} {k : Vec F S1x256x128 .bf16 → Prog (TpuEff nD τ sig (Elt F) Λ₀ .tc) α}
    {off : Fin 3 → ℕ} {h} (ho : off = ![(row l c).val, 0, 0])
    {hl : (woM : Memref sig .tc .vmem S12x256x128 .bf16).view.LoadsAt (Rect.unit (s := S12x256x128) off S1x256x128.size h).toLoadRect} :
    (slotAny 1 c (row l c) : sProp 𝕄)
      ⊢ iprop((∀ v, slotAny 1 c (row l c) -∗ wp frame (wpE (defs₀ (F := F)) 𝒱₀ (c : Thread nD τ) none) Set.univ (k v) Q)
          -∗ wp frame (wpE (defs₀ (F := F)) 𝒱₀ (c : Thread nD τ) none) Set.univ (.op (.load woM (Rect.unit (s := S12x256x128) off S1x256x128.size h).toLoadRect hl) k) Q) := by
  subst ho
  unfold slotAny
  iintro ⟨%f, H⟩ Hk
  iapply (wp_load_rect 𝒱₀ (c : Thread nD τ) none Set.univ (m := woM) (r := rectO (row l c)) (S := (woRow (row l c)).view.set) (q := fullShare) (f := f) (Finset.Subset.refl _)) $$ H
  iintro H
  iapply Hk
  iexists f; iexact H

/-- The device's own block written into its own row. -/
theorem wp_fill_wo (l : Fin 3) {α : Type} {Q : α → sProp 𝕄} {k : PUnit → Prog (TpuEff nD τ sig (Elt F) Λ₀ .tc) α}
    {off : Fin 3 → ℕ} {h} (ho : off = ![(row l c).val, 0, 0]) {w : (Rect.unit (s := S12x256x128) off S1x256x128.size h).shape.Idx → Elt F .bf16} (hw : w = k0_pay2 (stO m l c))
    {hx : ((woM : Memref sig .tc .vmem S12x256x128 .bf16).access (Rect.unit (s := S12x256x128) off S1x256x128.size h)).Stores Finset.univ} {hm} :
    (slotAny 1 c (row l c) : sProp 𝕄)
      ⊢ iprop((slot m 1 c (row l c) fullShare -∗ wp frame (wpE (defs₀ (F := F)) 𝒱₀ (c : Thread nD τ) none) Set.univ (k ⟨⟩) Q)
          -∗ wp frame (wpE (defs₀ (F := F)) 𝒱₀ (c : Thread nD τ) none) Set.univ (.op (.store woM (Rect.unit (s := S12x256x128) off S1x256x128.size h) w Finset.univ hx hm) k) Q) := by
  subst ho
  have hw' : w = rowValO m (row l c) := by rw [hw]; unfold rowValO; rw [rowL_row, rowD_row]
  subst hw'
  unfold slotAny
  iintro ⟨%f, H⟩ Hk
  iapply (wp_store 𝒱₀ (c : Thread nD τ) none Set.univ (m := woM) (r := rectO (row l c)) (Mk := Finset.univ) (S := (woRow (row l c)).view.set) (f := f) (Finset.Subset.refl _)) $$ H
  iintro H
  iapply Hk
  have e : (((woRow (row l c)).view.loc (c : Thread nD τ) ↦[(woRow (row l c)).view.set]{fullShare} ((woM.access (rectO (row l c))).write (Elt F) f (rowValO m (row l c)) Finset.univ)) : sProp 𝕄)
      = slot m 1 c (row l c) fullShare := pointsTo_congr (write_rowO m (row l c) f)
  ihave H := (Entails.of_eq e) $$ H
  iexact H

theorem off1_layer0 : k0_off1 c 0#32 = ![(row 0 c).val, 0, 0] := k0_off1_eq c 0
theorem off1_layer1 : k0_off1 c 4#32 = ![(row 1 c).val, 0, 0] := k0_off1_eq c 1
theorem off1_layer2 : k0_off1 c 8#32 = ![(row 2 c).val, 0, 0] := k0_off1_eq c 2
theorem off2_layer0 : k0_off2 c 0#32 = ![(row 0 c).val, 0, 0] := k0_off2_eq c 0
theorem off2_layer1 : k0_off2 c 4#32 = ![(row 1 c).val, 0, 0] := k0_off2_eq c 1
theorem off2_layer2 : k0_off2 c 8#32 = ![(row 2 c).val, 0, 0] := k0_off2_eq c 2

/-! ## The staged blocks -/

/-- Reading a staging buffer whole gives what it holds. -/
theorem read_stg0 (f : (cc0_stg0_0 : Ref sig .tc).ty.Contents (Elt F)) :
    (Memref.whole cc0_stg0_0 : Memref sig .tc .vmem S128x128 .bf16).view.readAt (Elt F) (Rect.unit (s := S128x128) ![0, 0] S128x128.size inb_S128x128_S128x128_0_0).toLoadRect f = f :=
  Memref.readAt_unit_zero (Elt F) cc0_stg0_0 zeros _ f
theorem read_stg1 (f : (cc0_stg1_0 : Ref sig .tc).ty.Contents (Elt F)) :
    (Memref.whole cc0_stg1_0 : Memref sig .tc .vmem S128x256 .bf16).view.readAt (Elt F) (Rect.unit (s := S128x256) ![0, 0] S128x256.size inb_S128x256_S128x256_0_0).toLoadRect f = f :=
  Memref.readAt_unit_zero (Elt F) cc0_stg1_0 zeros _ f
theorem read_stg2 (f : (cc0_stg2_0 : Ref sig .tc).ty.Contents (Elt F)) :
    (Memref.whole cc0_stg2_0 : Memref sig .tc .vmem S256x128 .bf16).view.readAt (Elt F) (Rect.unit (s := S256x128) ![0, 0] S256x128.size inb_S256x128_S256x128_0_0).toLoadRect f = f :=
  Memref.readAt_unit_zero (Elt F) cc0_stg2_0 zeros _ f
theorem read_stg3 (f : (cc0_stg3_0 : Ref sig .tc).ty.Contents (Elt F)) :
    (Memref.whole cc0_stg3_0 : Memref sig .tc .vmem S128x256 .bf16).view.readAt (Elt F) (Rect.unit (s := S128x256) ![0, 0] S128x256.size inb_S128x256_S128x256_0_0).toLoadRect f = f :=
  Memref.readAt_unit_zero (Elt F) cc0_stg3_0 zeros _ f
theorem read_stg4 (f : (cc0_stg4_0 : Ref sig .tc).ty.Contents (Elt F)) :
    (Memref.whole cc0_stg4_0 : Memref sig .tc .vmem S256x128 .bf16).view.readAt (Elt F) (Rect.unit (s := S256x128) ![0, 0] S256x128.size inb_S256x128_S256x128_0_0).toLoadRect f = f :=
  Memref.readAt_unit_zero (Elt F) cc0_stg4_0 zeros _ f
theorem read_stg5 (f : (cc0_stg5_0 : Ref sig .tc).ty.Contents (Elt F)) :
    (Memref.whole cc0_stg5_0 : Memref sig .tc .vmem S128x256 .bf16).view.readAt (Elt F) (Rect.unit (s := S128x256) ![0, 0] S128x256.size inb_S128x256_S128x256_0_0).toLoadRect f = f :=
  Memref.readAt_unit_zero (Elt F) cc0_stg5_0 zeros _ f
theorem read_stg6 (f : (cc0_stg6_0 : Ref sig .tc).ty.Contents (Elt F)) :
    (Memref.whole cc0_stg6_0 : Memref sig .tc .vmem S256x128 .bf16).view.readAt (Elt F) (Rect.unit (s := S256x128) ![0, 0] S256x128.size inb_S256x128_S256x128_0_0).toLoadRect f = f :=
  Memref.readAt_unit_zero (Elt F) cc0_stg6_0 zeros _ f

/-! ## The stretches -/

/-- The device learns its place and tells the first two devices. -/
theorem part1  :
    (iprop(records m K ∗ owing c (O₀ c) ∗ dutyTok ER (barCell (peer c 0)) 0 2 ∗ handed c (peer c 0) ∗ dutyTok ER (barCell (peer c 1)) 0 1 ∗ handed c (peer c 1)) : sProp 𝕄)
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 )
          (fun r => iprop(⌜r.1 = c ∧ r.2.2.1 = (SemArray.scalar (sig.barrier 0 rfl) : Sems sig S_)⌝ ∗ owing c (O₂ c))) := by
  rw [k0_part1_eq_skeleton]; unfold k0_part1_skel
  simp only [semSignalWord, semWaitWord, Prog.lift, Prog.bind_op, Prog.bind_ret, Prog.pure_eq_ret, wp_deviceId]
  iintro ⟨#HR, HO, Ht0, Hp0, Ht1, Hp1⟩
  iapply (wp_tell m K c 0 2 rfl (dev1_eq c) (O := O₁ c) rfl (by decide)) $$ [HO Ht0 Hp0]
  · isplitr; · iexact HR
    isplitl [HO]; · iexact HO
    isplitl [Ht0]; · iexact Ht0
    iexact Hp0
  iintro HO
  iapply (wp_tell m K c 1 1 rfl (dev2_eq c) (O := O₂ c) rfl (by decide)) $$ [HO Ht1 Hp1]
  · isplitr; · iexact HR
    isplitl [HO]; · iexact HO
    isplitl [Ht1]; · iexact Ht1
    iexact Hp1
  iintro HO
  rw [wp_ret]; imodintro
  isplitr; · ipureintro; exact ⟨rfl, rfl⟩
  iexact HO

/-- The third device is told; layer 0's own blocks go to their rows. -/
theorem part2 (v2 : BitVec 32) (v30 : BitVec 32) (c4_i32_18 : BitVec 32) (v31 : BitVec 1) :
    (iprop(records m K ∗ owing c (O₂ c) ∗ dutyTok ER (barCell (peer c 2)) 0 0 ∗ handed c (peer c 2) ∗ staged c cc0_stg1_0 (stI m 0 c) ∗ staged c cc0_stg2_0 (stO m 0 c) ∗ staged c cc0_stg3_0 (stI m 1 c) ∗ slotAny 0 c (row 0 c) ∗ slotAny 1 c (row 0 c) ∗ slotAny 0 c (row 1 c)) : sProp 𝕄)
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 (SemArray.scalar (sig.barrier 0 rfl) : Sems sig S_) v30 c4_i32_18 v31)
          (fun r => iprop(⌜r = k0_pay3 (stI m 1 c)⌝ ∗ owing c (owedS c 0) ∗ staged c cc0_stg1_0 (stI m 0 c) ∗ staged c cc0_stg2_0 (stO m 0 c) ∗ staged c cc0_stg3_0 (stI m 1 c) ∗ slot m 0 c (row 0 c) fullShare ∗ slot m 1 c (row 0 c) fullShare ∗ slotAny 0 c (row 1 c))) := by
  rw [k0_part2_eq_skeleton]; unfold k0_part2_skel
  simp only [semSignalWord, semWaitWord, Prog.lift, Prog.bind_op, Prog.bind_ret, Prog.pure_eq_ret, wp_deviceId]
  iintro ⟨#HR, HO, Ht2, Hp2, H1, H2, H3, Ha, Hb, Hd⟩
  iapply (wp_tell m K c 2 0 rfl (dev3_eq c) (O := owedS c 0) rfl (by decide)) $$ [HO Ht2 Hp2]
  · isplitr; · iexact HR
    isplitl [HO]; · iexact HO
    isplitl [Ht2]; · iexact Ht2
    iexact Hp2
  iintro HO
  iapply (wp_load 𝒱₀ (c : Thread nD τ) none Set.univ (m := Memref.whole cc0_stg1_0) (S := Finset.univ) (Finset.subset_univ _)) $$ H1; iintro H1
  rw [read_stg1]
  iapply (wp_peek_wi c 0 (off := k0_off1 c 0#32) (off1_layer0 c)) $$ Ha; iintro %_ Ha
  iapply (wp_fill_wi m c 0 (off := k0_off1 c 0#32) (off1_layer0 c) rfl) $$ Ha; iintro Ha
  iapply (wp_load 𝒱₀ (c : Thread nD τ) none Set.univ (m := Memref.whole cc0_stg2_0) (S := Finset.univ) (Finset.subset_univ _)) $$ H2; iintro H2
  rw [read_stg2]
  iapply (wp_peek_wo c 0 (off := k0_off2 c 0#32) (off2_layer0 c)) $$ Hb; iintro %_ Hb
  iapply (wp_fill_wo m c 0 (off := k0_off2 c 0#32) (off2_layer0 c) rfl) $$ Hb; iintro Hb
  iapply (wp_load 𝒱₀ (c : Thread nD τ) none Set.univ (m := Memref.whole cc0_stg3_0) (S := Finset.univ) (Finset.subset_univ _)) $$ H3; iintro H3
  rw [read_stg3]
  iapply (wp_peek_wi c 1 (off := k0_off1 c 4#32) (off1_layer1 c)) $$ Hd; iintro %_ Hd
  rw [wp_ret]; imodintro
  isplitr; · ipureintro; rfl
  isplitl [HO]; · iexact HO
  isplitl [H1]; · iexact H1
  isplitl [H2]; · iexact H2
  isplitl [H3]; · iexact H3
  isplitl [Ha]; · iexact Ha
  isplitl [Hb]; · iexact Hb
  iexact Hd

/-- Layer 1's and layer 2's own blocks go to their rows; the device waits for the other three. -/
theorem part3 (v2 : BitVec 32)  :
    (iprop(records m K ∗ levAts L lv ∗ owing c (owedS c 0) ∗ atPos ER (barCell c) 0 ∅ 0 ∗ cred (tallyAt (barCell c) () 3) ∗ staged c cc0_stg4_0 (stO m 1 c) ∗ staged c cc0_stg5_0 (stI m 2 c) ∗ staged c cc0_stg6_0 (stO m 2 c) ∗ slotAny 0 c (row 1 c) ∗ slotAny 1 c (row 1 c) ∗ slotAny 0 c (row 2 c) ∗ slotAny 1 c (row 2 c)) : sProp 𝕄)
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 (SemArray.scalar (sig.barrier 0 rfl) : Sems sig S_) (k0_pay3 (stI m 1 c)))
          (fun r => iprop((owing c (owedS c 0) ∗ semVal (barCell c) 0 ∗ bigSep Finset.univ fun j : Fin 3 => handed (peer c j) c) ∗ staged c cc0_stg4_0 (stO m 1 c) ∗ staged c cc0_stg5_0 (stI m 2 c) ∗ staged c cc0_stg6_0 (stO m 2 c) ∗ slot m 0 c (row 1 c) fullShare ∗ slot m 1 c (row 1 c) fullShare ∗ slot m 0 c (row 2 c) fullShare ∗ slot m 1 c (row 2 c) fullShare)) := by
  rw [k0_part3_eq_skeleton]; unfold k0_part3_skel
  simp only [semSignalWord, semWaitWord, Prog.lift, Prog.bind_op, Prog.bind_ret, Prog.pure_eq_ret, wp_deviceId]
  iintro ⟨#HR, #Hlev, HO, Hat, Hc, H4, H5, H6, Ha, Hb, Hd, He⟩
  iapply (wp_fill_wi m c 1 (off := k0_off1 c 4#32) (off1_layer1 c) rfl) $$ Ha; iintro Ha
  iapply (wp_load 𝒱₀ (c : Thread nD τ) none Set.univ (m := Memref.whole cc0_stg4_0) (S := Finset.univ) (Finset.subset_univ _)) $$ H4; iintro H4
  rw [read_stg4]
  iapply (wp_peek_wo c 1 (off := k0_off2 c 4#32) (off2_layer1 c)) $$ Hb; iintro %_ Hb
  iapply (wp_fill_wo m c 1 (off := k0_off2 c 4#32) (off2_layer1 c) rfl) $$ Hb; iintro Hb
  iapply (wp_load 𝒱₀ (c : Thread nD τ) none Set.univ (m := Memref.whole cc0_stg5_0) (S := Finset.univ) (Finset.subset_univ _)) $$ H5; iintro H5
  rw [read_stg5]
  iapply (wp_peek_wi c 2 (off := k0_off1 c 8#32) (off1_layer2 c)) $$ Hd; iintro %_ Hd
  iapply (wp_fill_wi m c 2 (off := k0_off1 c 8#32) (off1_layer2 c) rfl) $$ Hd; iintro Hd
  iapply (wp_load 𝒱₀ (c : Thread nD τ) none Set.univ (m := Memref.whole cc0_stg6_0) (S := Finset.univ) (Finset.subset_univ _)) $$ H6; iintro H6
  rw [read_stg6]
  iapply (wp_peek_wo c 2 (off := k0_off2 c 8#32) (off2_layer2 c)) $$ He; iintro %_ He
  iapply (wp_fill_wo m c 2 (off := k0_off2 c 8#32) (off2_layer2 c) rfl) $$ He; iintro He
  iapply (wp_meet m K c (by decide)) $$ [HO Hat Hc]
  · isplitr; · iexact HR
    isplitr; · iexact Hlev
    isplitl [HO]; · iexact HO
    isplitl [Hat]; · iexact Hat
    iexact Hc
  iintro HM
  rw [wp_ret]; imodintro
  isplitl [HM]; · iexact HM
  isplitl [H4]; · iexact H4
  isplitl [H5]; · iexact H5
  isplitl [H6]; · iexact H6
  isplitl [Ha]; · iexact Ha
  isplitl [Hb]; · iexact Hb
  isplitl [Hd]; · iexact Hd
  iexact He

/-- The last two blocks start, and the device reads its block of `x`. -/
theorem part12 (v2 : BitVec 32) (v325 : BitVec 32) (v326 : BitVec 32) (v327 : BitVec 1) (v328 : BitVec 1) (v329 : BitVec 1) :
    (iprop(Sending m K c 16 ∗ staged c cc0_stg0_0 (stX m c)) : sProp 𝕄)
      ⊢ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c v2 v325 v326 v327 v328 v329)
          (fun r => iprop(⌜r.1 = k0_pay7 (stX m c)⌝ ∗ Sending m K c 18 ∗ staged c cc0_stg0_0 (stX m c))) := by
  rw [k0_part12_eq_skeleton]; unfold k0_part12_skel
  simp only [Prog.lift, Prog.bind_op, Prog.bind_ret, Prog.pure_eq_ret]
  iintro ⟨H, H0⟩
  iapply (wp_send_wi m K c (2, 2, 0) rfl 16 rfl 17 rfl (sliceI_eq (row 2 c) (off3_layer2 c)) (sliceI_eq (row 2 c) (off3_layer2 c)) (dev20_eq c) rfl rfl) $$ H
  iintro H
  iapply (wp_send_wo m K c (2, 2, 1) rfl 17 rfl 18 rfl (sliceO_eq (row 2 c) (off4_layer2 c)) (sliceO_eq (row 2 c) (off4_layer2 c)) (dev21_eq c) rfl rfl) $$ H
  iintro H
  iapply (wp_load 𝒱₀ (c : Thread nD τ) none Set.univ (m := Memref.whole cc0_stg0_0) (S := Finset.univ) (Finset.subset_univ _)) $$ H0; iintro H0
  rw [read_stg0]
  rw [wp_ret]; imodintro
  isplitr; · ipureintro; rfl
  isplitl [H]; · iexact H
  iexact H0

end Cert.GatherProof

end
-- ==== Proof.Departures.lean ====
/-
# Departures: the kernel waits for its own transfers to have left
-/
module

public import proofs.«01_k».proof.Proof.Waits

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ)
variable (c : Dev nD)

/-- Transfers 1 to 4 have left. -/
theorem part28  :
    (Departing m K c 0 : sProp 𝕄)
      ⊢ wp frame (wpE (defs₀ (F := F)) 𝒱₀ (c : Thread nD τ) none) Set.univ
          (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c)
          (fun r => Departing m K c 4) := by
  rw [k0_part28_eq_skeleton]; unfold k0_part28_skel
  simp only [Prog.lift, Prog.bind_op, Prog.bind_ret, Prog.pure_eq_ret]
  iintro H
  iapply (wp_depart_wi m K c (0, 0, 0) 0 rfl 1 rfl rfl) $$ H; iintro H
  iapply (wp_depart_wo m K c (0, 0, 1) 1 rfl 2 rfl rfl) $$ H; iintro H
  iapply (wp_depart_wi m K c (0, 1, 0) 2 rfl 3 rfl rfl) $$ H; iintro H
  iapply (wp_depart_wo m K c (0, 1, 1) 3 rfl 4 rfl rfl) $$ H; iintro H
  rw [wp_ret]; imodintro; iexact H

/-- Transfers 5 to 8 have left. -/
theorem part29  :
    (Departing m K c 4 : sProp 𝕄)
      ⊢ wp frame (wpE (defs₀ (F := F)) 𝒱₀ (c : Thread nD τ) none) Set.univ
          (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c)
          (fun r => Departing m K c 8) := by
  rw [k0_part29_eq_skeleton]; unfold k0_part29_skel
  simp only [Prog.lift, Prog.bind_op, Prog.bind_ret, Prog.pure_eq_ret]
  iintro H
  iapply (wp_depart_wi m K c (0, 2, 0) 4 rfl 5 rfl rfl) $$ H; iintro H
  iapply (wp_depart_wo m K c (0, 2, 1) 5 rfl 6 rfl rfl) $$ H; iintro H
  iapply (wp_depart_wi m K c (1, 0, 0) 6 rfl 7 rfl rfl) $$ H; iintro H
  iapply (wp_depart_wo m K c (1, 0, 1) 7 rfl 8 rfl rfl) $$ H; iintro H
  rw [wp_ret]; imodintro; iexact H

/-- Transfers 9 to 13 have left. -/
theorem part30  :
    (Departing m K c 8 : sProp 𝕄)
      ⊢ wp frame (wpE (defs₀ (F := F)) 𝒱₀ (c : Thread nD τ) none) Set.univ
          (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c)
          (fun r => Departing m K c 13) := by
  rw [k0_part30_eq_skeleton]; unfold k0_part30_skel
  simp only [Prog.lift, Prog.bind_op, Prog.bind_ret, Prog.pure_eq_ret]
  iintro H
  iapply (wp_depart_wi m K c (1, 1, 0) 8 rfl 9 rfl rfl) $$ H; iintro H
  iapply (wp_depart_wo m K c (1, 1, 1) 9 rfl 10 rfl rfl) $$ H; iintro H
  iapply (wp_depart_wi m K c (1, 2, 0) 10 rfl 11 rfl rfl) $$ H; iintro H
  iapply (wp_depart_wo m K c (1, 2, 1) 11 rfl 12 rfl rfl) $$ H; iintro H
  iapply (wp_depart_wi m K c (2, 0, 0) 12 rfl 13 rfl rfl) $$ H; iintro H
  rw [wp_ret]; imodintro; iexact H

/-- Transfers 14 to 17 have left. -/
theorem part31  :
    (Departing m K c 13 : sProp 𝕄)
      ⊢ wp frame (wpE (defs₀ (F := F)) 𝒱₀ (c : Thread nD τ) none) Set.univ
          (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3 c)
          (fun r => Departing m K c 17) := by
  rw [k0_part31_eq_skeleton]; unfold k0_part31_skel
  simp only [Prog.lift, Prog.bind_op, Prog.bind_ret, Prog.pure_eq_ret]
  iintro H
  iapply (wp_depart_wo m K c (2, 0, 1) 13 rfl 14 rfl rfl) $$ H; iintro H
  iapply (wp_depart_wi m K c (2, 1, 0) 14 rfl 15 rfl rfl) $$ H; iintro H
  iapply (wp_depart_wo m K c (2, 1, 1) 15 rfl 16 rfl rfl) $$ H; iintro H
  iapply (wp_depart_wi m K c (2, 2, 0) 16 rfl 17 rfl rfl) $$ H; iintro H
  rw [wp_ret]; imodintro; iexact H

end Cert.GatherProof

end
-- ==== Proof.Regroup.lean ====
/-
# Regroup: the slots between the phases

Before the first transfer: a device's own rows, filled, and the slots the others handed over are what the eighteen
transfers need. After the last departure: the shares that came back, the shares kept and the slots that arrived are the two
gather buffers whole.
-/
module

public import proofs.«01_k».proof.Proof.Rows

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ)
variable (c : Dev nD)

/-- A resource per transfer, block by block. -/
theorem bigSep_blocks (Φ : Step → sProp 𝕄) :
    bigSep Finset.univ Φ = bigSep Finset.univ fun l : Fin 3 => bigSep Finset.univ fun k : Fin 2 => bigSep Finset.univ fun o : Fin 3 => Φ (l, o, k) := by
  rw [bigSep_univ_prod]
  exact bigSep_congr fun l _ => (bigSep_univ_prod fun x : Fin 3 × Fin 2 => Φ (l, x)).trans (bigSep_swap _)

/-- The device's own rows held at share `q`, block by block. -/
def ownRows (q : PosShare TreeShare) : sProp 𝕄 := bigSep Finset.univ fun l : Fin 3 => bigSep Finset.univ fun k : Fin 2 => slot m k c (row l c) q

/-- The own rows, whole, are the shares the transfers read with and the shares kept. -/
theorem ownRows_split : ownRows m c fullShare = iprop((bigSep Finset.univ fun s : Step => slot m s.2.2 c (row s.1 c) (sh s.2.1)) ∗ kept m c) := by
  rw [bigSep_blocks]
  unfold ownRows kept
  rw [← bigSep_sep']
  refine bigSep_congr fun l _ => ?_
  rw [← bigSep_sep']
  exact bigSep_congr fun k _ => slot_split m k c (row l c)

/-- The slots the three others hand over are those the transfers fill. -/
theorem handed_steps : (bigSep Finset.univ fun j : Fin 3 => handed (peer c j) c : sProp 𝕄) = bigSep Finset.univ fun s : Step => slotAny s.2.2 (peer c s.2.1) (row s.1 c) := by
  rw [bigSep_steps]; rfl

/-- Everything the transfers need. -/
theorem unsent_intro :
    iprop((bigSep Finset.univ fun s : Step => atPos ER (sendCell c s) 0 ∅ 0) ∗ (bigSep Finset.univ fun s : Step => dutyTok ER (sendCell c s) 0 0)
        ∗ (bigSep Finset.univ fun s : Step => dutyTok ER (recvCell (peer c s.2.1) s) 0 0)
        ∗ ownRows m c fullShare ∗ (bigSep Finset.univ fun j : Fin 3 => handed (peer c j) c))
      ⊢ (iprop(upto 0 (unsent m c) (sent c) ∗ kept m c) : sProp 𝕄) := by
  rw [upto_zero, ownRows_split, handed_steps]
  unfold unsent
  rw [bigSep_sep', bigSep_sep', bigSep_sep', bigSep_sep']
  iintro ⟨H1, H2, H3, ⟨H4, Hk⟩, H5⟩
  isplitr [Hk]
  · isplitl [H1]; · iexact H1
    isplitl [H2]; · iexact H2
    isplitl [H3]; · iexact H3
    isplitl [H4]; · iexact H4
    iexact H5
  · iexact Hk

/-- Everything the arrivals need. -/
theorem expected_intro :
    iprop((bigSep Finset.univ fun s : Step => atPos ER (recvCell c s) 0 ∅ 0) ∗ (bigSep Finset.univ fun s : Step => cred (tallyAt (recvCell c s) () N)))
      ⊢ (upto 0 (expected c) (arrived m c) : sProp 𝕄) := by
  rw [upto_zero, ← bigSep_sep']
  exact BI.Entails.refl _

/-- All sent is the state the departures start from. -/
theorem sent_departing : (upto 18 (unsent m c) (sent c) : sProp 𝕄) = upto 0 (sent c) (departed m c) := by rw [upto_end, upto_zero]

/-- In the end the two gather buffers are whole and all the transfers' semaphores are at zero. -/
theorem finish :
    iprop(upto 18 (sent c) (departed m c) ∗ upto 18 (expected c) (arrived m c) ∗ kept m c)
      ⊢ (iprop((((c : Thread nD τ).loc cc0_scratch0) ↦{fullShare} gathI m) ∗ (((c : Thread nD τ).loc cc0_scratch1) ↦{fullShare} gathO m)
          ∗ (bigSep Finset.univ fun s : Step => semVal (sendCell c s) 0) ∗ (bigSep Finset.univ fun s : Step => semVal (recvCell c s) 0)) : sProp 𝕄) := by
  rw [upto_end, upto_end]
  unfold departed arrived
  rw [bigSep_sep', bigSep_sep']
  have hown := Entails.of_eq (ownRows_split (F := F) m c).symm
  have hoth : (bigSep Finset.univ fun s : Step => slot m s.2.2 c (row s.1 (peer c s.2.1.rev)) fullShare : sProp 𝕄)
      ⊢ bigSep Finset.univ fun o : Fin 3 => bigSep Finset.univ fun l : Fin 3 => bigSep Finset.univ fun k : Fin 2 => slot m k c (row l (peer c o.rev)) fullShare :=
    Entails.of_eq (bigSep_steps _)
  have hall := rows_join (F := F) m c
  rw [bigSep_before c] at hall
  iintro ⟨⟨Hz, Hs⟩, ⟨Hz', Hs'⟩, Hk⟩
  ihave Ho := hown $$ [Hs Hk]
  · isplitl [Hs]; · iexact Hs
    iexact Hk
  ihave Hs' := hoth $$ Hs'
  ihave Hall := hall $$ [Ho Hs']
  · unfold ownRows
    isplitl [Ho]; · iexact Ho
    iexact Hs'
  icases Hall with ⟨HI, HO⟩
  isplitl [HI]; · iexact HI
  isplitl [HO]; · iexact HO
  isplitl [Hz]; · iexact Hz
  iexact Hz'

end Cert.GatherProof

end
-- ==== Proof.Body.lean ====
/-
# Body: the kernel on one device, from its start to its end

The stretches in order: the handshake, the eighteen transfers' starts, their arrivals with the three layers in between, and
their departures. From the launch's ghost state and the staged blocks, the kernel ends with the result `outAt` staged, both
gather buffers whole, nothing owed and all its semaphores at zero.
-/
module

public import proofs.«01_k».proof.Proof.Handshake
public import proofs.«01_k».proof.Proof.Departures
public import proofs.«01_k».proof.Proof.Regroup

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ)
variable (c : Dev nD)

/-- A stretch and what follows it. -/
theorem after {α β : Type} {P : sProp 𝕄} {p : Prog (TpuEff nD τ sig (Elt F) Λ₀ .tc) β} {Φ : β → sProp 𝕄}
    {k : β → Prog (TpuEff nD τ sig (Elt F) Λ₀ .tc) α} {Q : α → sProp 𝕄} (h : P ⊢ wp frame (wpE (defs₀ (F := F)) 𝒱₀ (c : Thread nD τ) none) Set.univ p Φ) :
    P ⊢ iprop((∀ r, Φ r -∗ wp frame (wpE (defs₀ (F := F)) 𝒱₀ (c : Thread nD τ) none) Set.univ (k r) Q) -∗ wp frame (wpE (defs₀ (F := F)) 𝒱₀ (c : Thread nD τ) none) Set.univ (p >>= k) Q) := by
  rw [wp_bind]
  iintro HP Hk
  ihave Hp := h $$ HP
  iapply (wp_wand (Fr := frame) (wpE := wpE (defs₀ (F := F)) 𝒱₀ (c : Thread nD τ) none) (E := Set.univ)) $$ Hp
  iexact Hk

/-- The ghost state a device starts from: the records; its positions on its own cells; the tokens of the signals it gives;
    the tokens of its own transfers' two ends. -/
def ghost : sProp 𝕄 :=
  iprop(records m K ∗ atPos ER (barCell c) 0 ∅ 0 ∗ (bigSep Finset.univ fun s : Step => atPos ER (sendCell c s) 0 ∅ 0)
    ∗ (bigSep Finset.univ fun s : Step => atPos ER (recvCell c s) 0 ∅ 0)
    ∗ (bigSep Finset.univ fun o : Fin 3 => dutyTok ER (barCell (peer c o)) 0 o.rev)
    ∗ (bigSep Finset.univ fun s : Step => dutyTok ER (sendCell c s) 0 0)
    ∗ (bigSep Finset.univ fun s : Step => dutyTok ER (recvCell (peer c s.2.1) s) 0 0))
/-- The credit it waits with. -/
def credits : sProp 𝕄 :=
  iprop(cred (tallyAt (barCell c) () 3) ∗ bigSep Finset.univ fun s : Step => cred (tallyAt (recvCell c s) () N))
/-- The staged blocks. -/
def inputs : sProp 𝕄 :=
  iprop(staged c cc0_stg0_0 (stX m c) ∗ staged c cc0_stg1_0 (stI m 0 c) ∗ staged c cc0_stg2_0 (stO m 0 c) ∗ staged c cc0_stg3_0 (stI m 1 c) ∗ staged c cc0_stg4_0 (stO m 1 c) ∗ staged c cc0_stg5_0 (stI m 2 c) ∗ staged c cc0_stg6_0 (stO m 2 c))
/-- What it starts from; -/
def atStart : sProp 𝕄 :=
  iprop(ghost m K c ∗ credits c ∗ levAts L lv ∗ owing c (O₀ c) ∗ (∃ f, ((c : Thread nD τ).loc cc0_scratch0) ↦{fullShare} f) ∗ (∃ f, ((c : Thread nD τ).loc cc0_scratch1) ↦{fullShare} f)
    ∗ inputs m c ∗ ∃ X, staged c cc0_stg7_0 X)
/-- and what it ends with. -/
def atEnd : sProp 𝕄 :=
  iprop(((((c : Thread nD τ).loc cc0_scratch0) ↦{fullShare} gathI m) ∗ (((c : Thread nD τ).loc cc0_scratch1) ↦{fullShare} gathO m)
      ∗ (bigSep Finset.univ fun s : Step => semVal (sendCell c s) 0) ∗ (bigSep Finset.univ fun s : Step => semVal (recvCell c s) 0))
    ∗ semVal (barCell c) 0 ∗ owing c 0 ∗ inputs m c ∗ staged c cc0_stg7_0 (outAt m c))

/-- The own rows one by one. -/
theorem handed_self : (handed c c : sProp 𝕄)
    = iprop((slotAny 0 c (row 0 c) ∗ slotAny 1 c (row 0 c)) ∗ (slotAny 0 c (row 1 c) ∗ slotAny 1 c (row 1 c)) ∗ slotAny 0 c (row 2 c) ∗ slotAny 1 c (row 2 c)) := by
  unfold handed; rw [bigSep_threes, bigSep_kinds, bigSep_kinds, bigSep_kinds]
theorem ownRows_eq : (ownRows m c fullShare : sProp 𝕄)
    = iprop((slot m 0 c (row 0 c) fullShare ∗ slot m 1 c (row 0 c) fullShare) ∗ (slot m 0 c (row 1 c) fullShare ∗ slot m 1 c (row 1 c) fullShare)
      ∗ slot m 0 c (row 2 c) fullShare ∗ slot m 1 c (row 2 c) fullShare) := by
  unfold ownRows; rw [bigSep_threes, bigSep_kinds, bigSep_kinds, bigSep_kinds]

set_option maxHeartbeats 4000000 in
set_option maxRecDepth 16000 in
/-- The kernel on device `c`. -/
theorem body_run :
    (atStart m K c : sProp 𝕄)
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3)
          (fun _ => atEnd m c) := by
  rw [cc0_body_eq_skeleton]; unfold cc0_body_skel
  unfold atStart ghost credits
  iintro ⟨⟨#HR, HatB, HatS, HatR, HtB, HtS, HtR⟩, ⟨HcB, HcR⟩, #Hlev, HO, ⟨%f₀, Hf⟩, ⟨%f₁, Hg⟩, Hin, Hout⟩
  have hrows := rows_split (F := F) c f₀ f₁
  rw [bigSep_after c, handed_self, bigSep_threes] at hrows
  ihave Hrows := hrows $$ [Hf Hg]
  · isplitl [Hf]; · iexact Hf
    iexact Hg
  icases Hrows with ⟨⟨⟨Ha, Hb⟩, ⟨Hd, He⟩, Hf, Hg⟩, Hp0, Hp1, Hp2⟩
  have htok := Entails.of_eq (bigSep_threes (F := F) fun o : Fin 3 => dutyTok ER (barCell (peer c o)) 0 o.rev)
  ihave HtB := htok $$ HtB
  icases HtB with ⟨Ht0, Ht1, Ht2⟩
  unfold inputs
  icases Hin with ⟨H0, H1, H2, H3, H4, H5, H6⟩
  iapply (after c (part1 m K c)) $$ [HO Ht0 Hp0 Ht1 Hp1]
  · isplitr; · iexact HR
    isplitl [HO]; · iexact HO
    isplitl [Ht0]; · iexact Ht0
    isplitl [Hp0]; · iexact Hp0
    isplitl [Ht1]; · iexact Ht1
    iexact Hp1
  iintro %r ⟨%hr, HO⟩
  obtain ⟨d0, v2, v3, v30, c4_i32_18, v31⟩ := r
  dsimp only at hr
  obtain ⟨hd0, hv3⟩ := hr
  subst d0; subst hv3
  dsimp only
  iapply (after c (part2 m K c _ _ _ _)) $$ [HO Ht2 Hp2 H1 H2 H3 Ha Hb Hd]
  · isplitr; · iexact HR
    isplitl [HO]; · iexact HO
    isplitl [Ht2]; · iexact Ht2
    isplitl [Hp2]; · iexact Hp2
    isplitl [H1]; · iexact H1
    isplitl [H2]; · iexact H2
    isplitl [H3]; · iexact H3
    isplitl [Ha]; · iexact Ha
    isplitl [Hb]; · iexact Hb
    iexact Hd
  iintro %v66 ⟨%hv66, HO, H1, H2, H3, Ha, Hb, Hd⟩
  subst hv66
  dsimp only
  iapply (after c (part3 m K c _)) $$ [HO HatB HcB H4 H5 H6 Hd He Hf Hg]
  · isplitr; · iexact HR
    isplitr; · iexact Hlev
    isplitl [HO]; · iexact HO
    isplitl [HatB]; · iexact HatB
    isplitl [HcB]; · iexact HcB
    isplitl [H4]; · iexact H4
    isplitl [H5]; · iexact H5
    isplitl [H6]; · iexact H6
    isplitl [Hd]; · iexact Hd
    isplitl [He]; · iexact He
    isplitl [Hf]; · iexact Hf
    iexact Hg
  iintro %r ⟨⟨HO, HzB, Hoth⟩, H4, H5, H6, Hd, He, Hf, Hg⟩
  obtain ⟨v93, v94, v95, v96, v97⟩ := r
  dsimp only
  have hown := Entails.of_eq (ownRows_eq (F := F) m c).symm
  ihave Hown := hown $$ [Ha Hb Hd He Hf Hg]
  · isplitl [Ha Hb]
    · isplitl [Ha]; · iexact Ha
      iexact Hb
    isplitl [Hd He]
    · isplitl [Hd]; · iexact Hd
      iexact He
    isplitl [Hf]; · iexact Hf
    iexact Hg
  ihave HU := (unsent_intro (F := F) m c) $$ [HatS HtS HtR Hown Hoth]
  · isplitl [HatS]; · iexact HatS
    isplitl [HtS]; · iexact HtS
    isplitl [HtR]; · iexact HtR
    isplitl [Hown]; · iexact Hown
    iexact Hoth
  icases HU with ⟨HU, Hkept⟩
  ihave H : Sending m K c 0 $$ [HO HU]
  · unfold Sending
    isplitr; · iexact HR
    isplitl [HO]; · iexact HO
    iexact HU
  iapply (after c (part4 m K c _ _ _ _ _ _)) $$ H
  iintro %r H
  obtain ⟨v122, v123, v124, v125, v126⟩ := r
  dsimp only
  iapply (after c (part5 m K c _ _ _ _ _ _)) $$ H
  iintro %r H
  obtain ⟨v151, v152, v153, v154, v155⟩ := r
  dsimp only
  iapply (after c (part6 m K c _ _ _ _ _ _)) $$ H
  iintro %r H
  obtain ⟨v180, v181, v182, v183, v184⟩ := r
  dsimp only
  iapply (after c (part7 m K c _ _ _ _ _ _)) $$ H
  iintro %r H
  obtain ⟨v209, v210, v211, v212, v213⟩ := r
  dsimp only
  iapply (after c (part8 m K c _ _ _ _ _ _)) $$ H
  iintro %r H
  obtain ⟨v238, v239, v240, v241, v242⟩ := r
  dsimp only
  iapply (after c (part9 m K c _ _ _ _ _ _)) $$ H
  iintro %r H
  obtain ⟨v267, v268, v269, v270, v271⟩ := r
  dsimp only
  iapply (after c (part10 m K c _ _ _ _ _ _)) $$ H
  iintro %r H
  obtain ⟨v296, v297, v298, v299, v300⟩ := r
  dsimp only
  iapply (after c (part11 m K c _ _ _ _ _ _)) $$ H
  iintro %r H
  obtain ⟨v325, v326, v327, v328, v329⟩ := r
  dsimp only
  iapply (after c (part12 m K c _ _ _ _ _ _)) $$ [H H0]
  · isplitl [H]; · iexact H
    iexact H0
  iintro %r ⟨%hr, H, H0⟩
  obtain ⟨v353, v356, v357, v358⟩ := r
  dsimp only at hr
  subst hr
  dsimp only
  unfold Sending
  icases H with ⟨-, HO, HU⟩
  have hno : (owing c (owedS c 18) : sProp 𝕄) ⊢ owing c 0 := Entails.of_eq (congrArg (owing c) (owedS_end c))
  ihave HO := hno $$ HO
  have hsent := Entails.of_eq (sent_departing (F := F) m c)
  ihave HU := hsent $$ HU
  ihave HE := (expected_intro (F := F) m c) $$ [HatR HcR]
  · isplitl [HatR]; · iexact HatR
    iexact HcR
  ihave H : Recving m K c 0 $$ [HO HE Hkept]
  · unfold Recving
    isplitr; · iexact HR
    isplitl [HO]; · iexact HO
    isplitl [HE]; · iexact HE
    iexact Hkept
  iapply (after c (part13 m K c _ _ _ _)) $$ H
  iintro %_ H
  dsimp only
  iapply (after c (part14 m K c _)) $$ H
  iintro %r H
  obtain ⟨v418, c0_i32_379⟩ := r
  dsimp only
  iapply (after c (part15 m K c _ _ _)) $$ H
  iintro %r H
  obtain ⟨v444, c4_i32_409, v445⟩ := r
  dsimp only
  iapply (after c (part16 m K c _ _ _ _ _)) $$ H
  iintro %r ⟨%hr, H⟩
  obtain ⟨v472, v475⟩ := r
  dsimp only at hr
  obtain ⟨h0, h1⟩ := hr
  subst h0; subst h1
  dsimp only
  iapply (after c (part17 m K c _ _ _ _)) $$ H
  iintro %r ⟨%hr, H⟩
  obtain ⟨v503, v506, v507, c0_i32_463⟩ := r
  dsimp only at hr
  have h0 := hr
  subst h0
  dsimp only
  iapply (after c (part18 m K c _ _ _ _)) $$ H
  iintro %_ H
  dsimp only
  iapply (after c (part19 m K c _)) $$ H
  iintro %v568 H
  dsimp only
  iapply (after c (part20 m K c _ _)) $$ H
  iintro %r H
  obtain ⟨v594, c4_i32_550, c0_i32_551⟩ := r
  dsimp only
  iapply (after c (part21 m K c _ _ _ _ _)) $$ H
  iintro %r ⟨%hr, H⟩
  obtain ⟨v622, v624, cst_578⟩ := r
  dsimp only at hr
  obtain ⟨h0, h1, h2⟩ := hr
  subst h0; subst h1; subst h2
  dsimp only
  iapply (after c (part22 m K c _ _ _ _ _)) $$ H
  iintro %r ⟨%hr, H⟩
  obtain ⟨v653, v656, v657⟩ := r
  dsimp only at hr
  have h0 := hr
  subst h0
  dsimp only
  iapply (after c (part23 m K c _ _ _)) $$ H
  iintro %_ H
  dsimp only
  iapply (after c (part24 m K c _)) $$ H
  iintro %r H
  obtain ⟨v711, v716, v717⟩ := r
  dsimp only
  iapply (after c (part25 m K c _ _ _ _)) $$ H
  iintro %r H
  obtain ⟨v744, c4_i32_691⟩ := r
  dsimp only
  iapply (after c (part26 m K c _ _ _ _)) $$ H
  iintro %r ⟨%hr, H⟩
  obtain ⟨v772, v774⟩ := r
  dsimp only at hr
  obtain ⟨h0, h1⟩ := hr
  subst h0; subst h1
  dsimp only
  iapply (after c (part27 m K c _ _ _)) $$ [H Hout]
  · isplitl [H]; · iexact H
    iexact Hout
  iintro %_ ⟨H, Hout⟩
  dsimp only
  unfold Recving
  icases H with ⟨-, HO, HE, Hkept⟩
  ihave H : Departing m K c 0 $$ [HO HU]
  · unfold Departing
    isplitr; · iexact HR
    isplitl [HO]; · iexact HO
    iexact HU
  iapply (after c (part28 m K c)) $$ H
  iintro %_ H
  dsimp only
  iapply (after c (part29 m K c)) $$ H
  iintro %_ H
  dsimp only
  iapply (after c (part30 m K c)) $$ H
  iintro %_ H
  dsimp only
  iapply (after c (part31 m K c)) $$ H
  iintro %_ H
  dsimp only
  simp only [Prog.lift, Prog.bind_op, Prog.bind_ret, Prog.pure_eq_ret]
  iapply (wp_depart_wo m K c (2, 2, 1) 17 rfl 18 rfl rfl) $$ H; iintro H
  rw [wp_ret]; imodintro
  unfold Departing atEnd inputs
  icases H with ⟨-, HO, HU⟩
  isplitl [HU HE Hkept]
  · iapply (finish (F := F) m c)
    isplitl [HU]; · iexact HU
    isplitl [HE]; · iexact HE
    iexact Hkept
  isplitl [HzB]; · iexact HzB
  isplitl [HO]; · iexact HO
  isplitr [Hout]
  · isplitl [H0]; · iexact H0
    isplitl [H1]; · iexact H1
    isplitl [H2]; · iexact H2
    isplitl [H3]; · iexact H3
    isplitl [H4]; · iexact H4
    isplitl [H5]; · iexact H5
    iexact H6
  iexact Hout

end Cert.GatherProof

end
-- ==== Proof.Dealing.lean ====
/-
# Dealing: the ghost state the launch mints, and how it reaches the devices

The launch mints, for every cell of every device, the cell's state at round 0, the device's position on it and the tokens of
its duties. Each device first turns its semaphores at zero and its cells' states into invariants. The tokens then move: the
tokens of a barrier cell go to the three devices that signal it, the token of a receive cell to the device whose transfer ends
there, and the token of a send cell stays.
-/
module

public import proofs.«01_k».proof.Proof.Body

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ)
variable (c : Dev nD)

/-! ## The minted cells and tokens -/

theorem enc_injective : Function.Injective enc := fun a b h => by rw [← dec_enc a, h, dec_enc]
theorem sendS_injective : Function.Injective sendS := fun a b h => enc_injective (Nat.add_left_cancel (congrArg Fin.val h))
theorem recvS_injective : Function.Injective recvS := fun a b h => enc_injective (Nat.add_left_cancel (congrArg Fin.val h))
/-- No send semaphore is a receive semaphore. -/
theorem sendS_ne_recvS (a b : Step) : sendS a ≠ recvS b := fun h => by
  have h1 : 8 + enc a = 26 + enc b := congrArg Fin.val h
  have := enc_lt a
  omega

theorem osem_injective : Function.Injective osem := by
  rintro (a | a) (b | b) h
  · exact congrArg _ (sendS_injective (SemLoc.dma.inj h))
  · exact absurd (SemLoc.dma.inj h) (sendS_ne_recvS a b)
  · exact absurd (SemLoc.dma.inj h).symm (sendS_ne_recvS b a)
  · exact congrArg _ (recvS_injective (SemLoc.dma.inj h))
theorem osem_ne_bar (k : Own) : osem k ≠ .reg barS := by rcases k with s | s <;> exact fun h => by cases h

/-- Different cells are different semaphores. -/
theorem kcell_injective : Function.Injective (kcell : Dev nD × Cell → GSem nD τ sig) := by
  rintro ⟨c, k⟩ ⟨c', k'⟩ h
  have h1 : c = c' := congrArg (fun g : GSem nD τ sig => g.1.1) h
  subst h1
  have h2 : csem k = csem k' := congrArg Prod.snd h
  rcases k with ⟨⟩ | k <;> rcases k' with ⟨⟩ | k'
  · rfl
  · exact absurd h2.symm (osem_ne_bar k')
  · exact absurd h2 (osem_ne_bar k)
  · rw [osem_injective h2]
def allCells : Finset (GSem nD τ sig) := Finset.univ.map ⟨kcell, kcell_injective⟩

/-- The duties of one device's cells: three of the barrier's, one of each other cell's. -/
abbrev Duty : Type := Fin 3 ⊕ Own
abbrev tokOf (cj : Dev nD × Duty) : GSem nD τ sig × ℕ × Fin 3 := match cj.2 with
  | .inl j => (barCell cj.1, 0, j)
  | .inr k => (((cj.1 : Thread nD τ), osem k), 0, 0)
/-- Different duties have different tokens. -/
theorem tokOf_injective : Function.Injective (tokOf : Dev nD × Duty → GSem nD τ sig × ℕ × Fin 3) := by
  rintro ⟨c, j⟩ ⟨c', j'⟩ h
  rcases j with j | j <;> rcases j' with j' | j'
  · have h1 : c = c' := congrArg (fun x : GSem nD τ sig × ℕ × Fin 3 => x.1.1.1) h
    have h2 : j = j' := congrArg (fun x : GSem nD τ sig × ℕ × Fin 3 => x.2.2) h
    rw [h1, h2]
  · exact absurd (congrArg (fun x : GSem nD τ sig × ℕ × Fin 3 => x.1.2) h).symm (osem_ne_bar j')
  · exact absurd (congrArg (fun x : GSem nD τ sig × ℕ × Fin 3 => x.1.2) h) (osem_ne_bar j)
  · have h1 : c = c' := congrArg (fun x : GSem nD τ sig × ℕ × Fin 3 => x.1.1.1) h
    have h2 : osem j = osem j' := congrArg (fun x : GSem nD τ sig × ℕ × Fin 3 => x.1.2) h
    rw [h1, osem_injective h2]
def allToks : Finset (GSem nD τ sig × ℕ × Fin 3) := Finset.univ.map ⟨tokOf, tokOf_injective⟩

/-- What the launch starts from: the pipeline's own cells and tokens, and the gather's. -/
def u₀ : UU :=
  (initOf (Pipeline.cells cfgs cellOf_inj) (Pipeline.launchToks cfgs cellOf_inj), initOf allCells allToks)

/-- The tokens of the duties of device `c`'s own cells. -/
def minted : sProp 𝕄 :=
  iprop((bigSep Finset.univ fun j : Fin 3 => dutyTok ER (barCell c) 0 j) ∗ (bigSep Finset.univ fun s : Step => dutyTok ER (sendCell c s) 0 0)
    ∗ bigSep Finset.univ fun s : Step => dutyTok ER (recvCell c s) 0 0)
/-- The tokens of the duties device `c` pays. -/
def payToks : sProp 𝕄 :=
  iprop((bigSep Finset.univ fun o : Fin 3 => dutyTok ER (barCell (peer c o)) 0 o.rev)
    ∗ (bigSep Finset.univ fun s : Step => dutyTok ER (sendCell c s) 0 0)
    ∗ bigSep Finset.univ fun s : Step => dutyTok ER (recvCell (peer c s.2.1) s) 0 0)
/-- Its positions on its cells. -/
def places : sProp 𝕄 := bigSep Finset.univ fun k : Cell => atPos ER (kcell (c, k)) 0 ∅ 0
def marks : sProp 𝕄 := bigSep Finset.univ fun k : Cell => reached ER (kcell (c, k)) 0

/-- What the minted element deals device `c`, -/
def G : sProp 𝕄 := iprop((bigSep Finset.univ fun k : Cell => roundState ER (Rd m) (kcell (c, k)) 0) ∗ (places c ∗ marks c) ∗ minted c)
/-- and what the launch makes of it. -/
def G' : sProp 𝕄 := iprop(∃ K, ghost m K c)

/-- A separating product over a device's cells, taken apart by kind of cell. -/
theorem bigSep_cell (Φ : Cell → sProp 𝕄) : bigSep Finset.univ Φ
    = iprop(Φ cBar ∗ (bigSep Finset.univ fun s : Step => Φ (cSend s)) ∗ bigSep Finset.univ fun s : Step => Φ (cRecv s)) := by
  rw [bigSep_univ_sum, bigSep_univ_sum, bigSep_univ_of_subsingleton ()]; rfl

/-- The minted element is every device's deal. -/
theorem fund_gather : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_univ_sum, bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places marks; simp only [bigSep_sep']
  isplitl [Hst']; · iexact Hst'
  isplitl [Hat' Hr']
  · isplitl [Hat']; · iexact Hat'
    iexact Hr'
  iexact Htok'

/-! ## The semaphores at zero become invariants -/

theorem ownSems0_eq : (Pipeline.ownSems0 (Ix := Unit) (Name := ℕ) (U := UU) (Lvl := ℕ) (Val := Elt F) (τ := τ) osem c : sProp 𝕄)
    = iprop((bigSep Finset.univ fun s : Step => semVal (sendCell c s) 0) ∗ bigSep Finset.univ fun s : Step => semVal (recvCell c s) 0) := by
  unfold Pipeline.ownSems0; rw [bigSep_univ_sum]; rfl
theorem unscopedSems0_eq : (unscopedSems0 c : sProp 𝕄) = semVal (barCell c) 0 := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_cell]
  iintro ⟨⟨HS, HV⟩, HB⟩
  isplitl [HB]; · iexact HB
  isplitl [HS]; · iexact HS
  iexact HV

/-- One device's cells become invariants. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (kcell (c, k)))) ∗ (places c ∗ marks c) ∗ minted c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Cell => semVal (kcell (c, k)) 0) ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The tokens move -/

/-- The barrier tokens: duty `j` of a device's barrier goes to the device at distance `j + 1` after it. -/
theorem bar_around : (bigSep Finset.univ fun c : Dev nD => bigSep Finset.univ fun j : Fin 3 => (dutyTok ER (barCell c) 0 j : sProp 𝕄))
    = bigSep Finset.univ fun c : Dev nD => bigSep Finset.univ fun o : Fin 3 => dutyTok ER (barCell (peer c o)) 0 o.rev := by
  rw [bigSep_univ_comm, bigSep_univ_comm (fun (c : Dev nD) (o : Fin 3) => (dutyTok ER (barCell (peer c o)) 0 o.rev : sProp 𝕄)),
    bigSep_univ_equiv Fin.revPerm]
  exact bigSep_congr fun o _ => bigSep_univ_equiv (ring o) fun c : Dev nD => (dutyTok ER (barCell c) 0 o.rev : sProp 𝕄)
/-- The receive tokens: transfer `s`'s goes to its source. -/
theorem recv_around : (bigSep Finset.univ fun c : Dev nD => bigSep Finset.univ fun s : Step => (dutyTok ER (recvCell c s) 0 0 : sProp 𝕄))
    = bigSep Finset.univ fun c : Dev nD => bigSep Finset.univ fun s : Step => dutyTok ER (recvCell (peer c s.2.1) s) 0 0 := by
  rw [bigSep_univ_comm, bigSep_univ_comm (fun (c : Dev nD) (s : Step) => (dutyTok ER (recvCell (peer c s.2.1) s) 0 0 : sProp 𝕄))]
  exact bigSep_congr fun s _ => bigSep_univ_equiv (ring s.2.1) fun c : Dev nD => (dutyTok ER (recvCell c s) 0 0 : sProp 𝕄)

theorem toks_around : (bigSep Finset.univ fun c : Dev nD => (minted c : sProp 𝕄)) ⊢ bigSep Finset.univ fun c : Dev nD => payToks c := by
  unfold minted payToks
  rw [bigSep_sep', bigSep_sep', bigSep_sep', bigSep_sep', bar_around, recv_around]

/-- A persistent fact serves every factor. -/
theorem bigSep_along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro : iprop(records m K ∗ places c ∗ payToks c) ⊢ G' m c := by
  unfold G' ghost places payToks
  have hp := Entails.of_eq (bigSep_cell (F := F) fun k : Cell => atPos ER (kcell (c, k)) 0 ∅ 0)
  iintro ⟨HR, Hp, Hb, Hs, Hr⟩
  ihave Hp := hp $$ Hp
  icases Hp with ⟨HaB, HaS, HaR⟩
  iexists K
  isplitl [HR]; · iexact HR
  isplitl [HaB]; · iexact HaB
  isplitl [HaS]; · iexact HaS
  isplitl [HaR]; · iexact HaR
  isplitl [Hb]; · iexact Hb
  isplitl [Hs]; · iexact Hs
  iexact Hr

/-- From every device's invariants, positions and minted tokens to every device's ghost state. -/
theorem regroup :
    (bigSep Finset.univ fun c : Dev nD => iprop((bigSep Finset.univ fun k : Cell => iprop(∃ κ : ℕ, cellInv ER (Rd m) κ (kcell (c, k)))) ∗ (places c ∗ marks c) ∗ minted c) : sProp 𝕄)
      ⊢ bigSep Finset.univ (G' m) := by
  rw [bigSep_sep', bigSep_sep', bigSep_sep', ← bigSep_univ_prod (fun ck : Dev nD × Cell => iprop(∃ κ : ℕ, cellInv ER (Rd m) κ (kcell ck)))]
  have hmarks : (bigSep Finset.univ fun c : Dev nD => (marks c : sProp 𝕄)) ⊢ bigSep Finset.univ fun ck : Dev nD × Cell => reached ER (kcell ck) 0 :=
    Entails.of_eq (bigSep_univ_prod (fun ck : Dev nD × Cell => (reached ER (kcell ck) 0 : sProp 𝕄))).symm
  iintro ⟨HI, ⟨Hat, HR⟩, Htok⟩
  ihave #HR := hmarks $$ HR
  ihave HK := (BI.bigSep_exists_pi Finset.univ (fun (ck : Dev nD × Cell) (κ : ℕ) => (cellInv ER (Rd m) κ (kcell ck) : sProp 𝕄))) $$ HI
  icases HK with ⟨%K, #HI⟩
  ihave Htk := (toks_around (F := F)) $$ Htok
  iapply (bigSep_along (R := records m K) fun c _ => ghost_intro m K c)
  isplitr
  · unfold records; isplitl; · iexact HI
    iexact HR
  · iapply (Entails.of_eq (bigSep_sep' Finset.univ (fun c : Dev nD => (places c : sProp 𝕄)) payToks).symm)
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit that goes with the debts -/

theorem bar_eq_iff {a b : Dev nD} : barCell a = barCell b ↔ a = b :=
  ⟨fun h => congrArg (fun g : GSem nD τ sig => g.1.1) h, fun h => h ▸ rfl⟩
theorem recv_eq_iff {a b : Dev nD} {s t : Step} : recvCell a s = recvCell b t ↔ a = b ∧ s = t :=
  ⟨fun h => ⟨congrArg (fun g : GSem nD τ sig => g.1.1) h, recvS_injective (SemLoc.dma.inj (congrArg Prod.snd h))⟩, fun h => by rw [h.1, h.2]⟩
theorem recv_ne_bar (a b : Dev nD) (s : Step) : recvCell a s ≠ barCell b := fun h => by cases congrArg Prod.snd h

/-- The transfers owe a barrier nothing, -/
theorem owedS_bar (d : Dev nD) (n : ℕ) : owedS d n (barCell c) () = 0 := by
  by_contra h
  obtain ⟨a, s, hs⟩ := owedS_pos (Nat.pos_of_ne_zero h)
  exact recv_ne_bar _ _ _ hs.symm
/-- and a receive cell one block's credit if the transfer ends there. -/
theorem owedS_recv (d : Dev nD) (s : Step) : owedS d 0 (recvCell c s) () = if c = peer d s.2.1 then N else 0 := by
  unfold owedS
  rw [Finset.sum_apply, Finsupp.finset_sum_apply, Finset.sum_eq_single s]
  · rw [if_pos (Nat.zero_le _), tallyAt_apply]
    by_cases h : c = peer d s.2.1
    · rw [if_pos h, if_pos ⟨by rw [h], rfl⟩]
    · rw [if_neg h, if_neg fun h' => h (recv_eq_iff.mp h'.1).1]
  · intro t _ ht
    rw [if_pos (Nat.zero_le _), tallyAt_apply, if_neg fun h' => ht (recv_eq_iff.mp h'.1).2.symm]
  · exact fun h => absurd (Finset.mem_univ s) h

theorem tally_bar (d : Dev nD) (o : Fin 3) : (tallyAt (barCell (peer d o)) () 1 : CellTallies nD τ sig Unit) (barCell c) () = if c = peer d o then 1 else 0 := by
  rw [tallyAt_apply]
  by_cases h : c = peer d o
  · rw [if_pos h, if_pos ⟨by rw [h], rfl⟩]
  · rw [if_neg h, if_neg fun h' => h (bar_eq_iff.mp h'.1)]

theorem owed_bar (d : Dev nD) : O₀ d (barCell c) () = ((if c = peer d 2 then 1 else 0) + (if c = peer d 1 then 1 else 0)) + if c = peer d 0 then 1 else 0 := by
  unfold O₀ O₁ O₂
  rw [Pi.add_apply, Finsupp.add_apply, Pi.add_apply, Finsupp.add_apply, Pi.add_apply, Finsupp.add_apply, tally_bar, tally_bar, tally_bar, owedS_bar, Nat.zero_add]
theorem owed_recv (d : Dev nD) (s : Step) : O₀ d (recvCell c s) () = if d = peer c s.2.1.rev then N else 0 := by
  unfold O₀ O₁ O₂
  rw [Pi.add_apply, Finsupp.add_apply, Pi.add_apply, Finsupp.add_apply, Pi.add_apply, Finsupp.add_apply, owedS_recv,
    tallyAt_ne_cell (recv_ne_bar _ _ _), tallyAt_ne_cell (recv_ne_bar _ _ _), tallyAt_ne_cell (recv_ne_bar _ _ _), Finsupp.zero_apply, Nat.add_zero, Nat.add_zero, Nat.add_zero]
  by_cases h : d = peer c s.2.1.rev
  · rw [if_pos h, if_pos (by rw [h, peer_rev'])]
  · rw [if_neg h, if_neg fun h' => h (by rw [h', peer_rev])]

/-- Each barrier is owed three units, -/
theorem launch_bar :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d]
  revert c; decide
/-- each receive cell one block's credit. -/
theorem launch_recv (s : Step) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv c d s, Finset.sum_ite_eq' Finset.univ _ fun _ => N,
    if_pos (Finset.mem_univ _)]

def recvLoc : Step ↪ SemLoc sig := ⟨fun s => .dma (recvS s), fun a b h => recvS_injective (SemLoc.dma.inj h)⟩

/-- The launch's credit covers what the device waits with. -/
theorem creds : (Pipeline.launchCred O₀ c : sProp 𝕄) ⊢ credits c := by
  unfold Pipeline.launchCred credits
  rw [bigSep_univ_at _ (SemLoc.reg barS), launch_bar]
  refine sep_mono_right ?_
  have hs : Finset.univ.map recvLoc ⊆ Finset.univ.erase (SemLoc.reg barS) := fun x hx => by
    obtain ⟨s, -, rfl⟩ := Finset.mem_map.mp hx
    have hne : SemLoc.dma (recvS s) ≠ .reg barS := fun h => by cases h
    exact Finset.mem_erase.mpr ⟨hne, Finset.mem_univ _⟩
  have he : (bigSep (Finset.univ.map recvLoc) fun sm : SemLoc sig => (cred (tallyOn ((c : Thread nD τ), sm) (launchCredit (Pipeline.owing O₀) 0 ((c : Thread nD τ), sm))) : sProp 𝕄))
      = bigSep Finset.univ fun s : Step => cred (tallyAt (recvCell c s) () N) := by
    rw [bigSep_map]
    exact bigSep_congr fun s _ => congrArg cred (launch_recv c s)
  rw [← he]
  exact bigSep_subset hs

end Cert.GatherProof

end
-- ==== Proof.Run.lean ====
/-
# Run: the whole program on the four devices

The kernel's body, as the pipeline calls it at its single grid point, meets the pipeline's obligation; the launch theorem
then gives the run of @main: every fair execution ends, every window's array holds the computed contents and every semaphore
is back at zero.
-/
module

public import proofs.«01_k».proof.Proof.Dealing
public import proofs.«01_k».proof.Proof.Gen.KernelIdeal.Points
public import Idealize.ShloMosaic.Lib.Pipeline.CollectiveSegs

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The pipeline's data -/

/-- Where every execution starts: the given memory, all semaphores at zero. -/
abbrev s₀ : MemSt nD τ sig (Elt F) := ⟨m, fun _ => 0, ρ⟩

/-- What a device holds when its kernel is entered, besides the buffers; -/
def start : sProp 𝕄 := iprop((∃ K, ghost m K c) ∗ credits c ∗ levAts L lv)
/-- before the grid point: that and the two gather buffers; -/
def Φ₀ : sProp 𝕄 :=
  iprop(start m c ∗ (∃ f, ((c : Thread nD τ).loc cc0_scratch0) ↦{fullShare} f) ∗ ∃ f, ((c : Thread nD τ).loc cc0_scratch1) ↦{fullShare} f)
/-- after it: the gather buffers full, every semaphore of the kernel and the barrier's at zero. -/
def Φ₁ : sProp 𝕄 :=
  iprop(((((c : Thread nD τ).loc cc0_scratch0) ↦{fullShare} gathI m) ∗ (((c : Thread nD τ).loc cc0_scratch1) ↦{fullShare} gathO m)
      ∗ (bigSep Finset.univ fun s : Step => semVal (sendCell c s) 0) ∗ (bigSep Finset.univ fun s : Step => semVal (recvCell c s) 0))
    ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => stX m c
    | ⟨1, _⟩ => stI m 0 c
    | ⟨2, _⟩ => stO m 0 c
    | ⟨3, _⟩ => stI m 1 c
    | ⟨4, _⟩ => stO m 1 c
    | ⟨5, _⟩ => stI m 2 c
    | ⟨6, _⟩ => stO m 2 c
    | ⟨7, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer owned at a value is the buffer holding that value. -/
theorem owns_whole_eq (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]
  have h1 : iprop(∃ f : Buf (Elt F) ((c : Thread nD τ).loc b), ⌜f = X⌝ ∗ (((c : Thread nD τ).loc b) ↦{fullShare} f)) ⊢ (staged c b X : sProp 𝕄) := by
    iintro ⟨%f, %hf, H⟩
    subst hf
    iexact H
  have h2 : (staged c b X : sProp 𝕄) ⊢ iprop(∃ f : Buf (Elt F) ((c : Thread nD τ).loc b), ⌜f = X⌝ ∗ (((c : Thread nD τ).loc b) ↦{fullShare} f)) := by
    iintro H
    iexists X
    isplitr; · ipureintro; rfl
    iexact H
  exact BI.equiv_iff.mp ⟨h1, h2⟩

/-! ## The body meets the obligation -/

def bodyPre : sProp 𝕄 :=
  iprop(Φ₀ m c ∗ (dats m 0 c).owesAt () t0_0.castSucc
    ∗ (∃ d, staged c cc0_stg0_0 ((dats m 0 c).before (0 : Fin 8) t0_0 d))
    ∗ (∃ d, staged c cc0_stg1_0 ((dats m 0 c).before (1 : Fin 8) t0_0 d))
    ∗ (∃ d, staged c cc0_stg2_0 ((dats m 0 c).before (2 : Fin 8) t0_0 d))
    ∗ (∃ d, staged c cc0_stg3_0 ((dats m 0 c).before (3 : Fin 8) t0_0 d))
    ∗ (∃ d, staged c cc0_stg4_0 ((dats m 0 c).before (4 : Fin 8) t0_0 d))
    ∗ (∃ d, staged c cc0_stg5_0 ((dats m 0 c).before (5 : Fin 8) t0_0 d))
    ∗ (∃ d, staged c cc0_stg6_0 ((dats m 0 c).before (6 : Fin 8) t0_0 d))
    ∗ (∃ d, staged c cc0_stg7_0 ((dats m 0 c).before (7 : Fin 8) t0_0 d)))

def bodyPost : sProp 𝕄 :=
  iprop(Φ₁ m c ∗ (dats m 0 c).owesAt () t0_0.succ ∗ staged c cc0_stg0_0 (stX m c) ∗ staged c cc0_stg1_0 (stI m 0 c) ∗ staged c cc0_stg2_0 (stO m 0 c)
    ∗ staged c cc0_stg3_0 (stI m 1 c) ∗ staged c cc0_stg4_0 (stO m 1 c) ∗ staged c cc0_stg5_0 (stI m 2 c) ∗ staged c cc0_stg6_0 (stO m 2 c)
    ∗ staged c cc0_stg7_0 (outAt m c))

/-- Before the body each input's staging buffer holds the device's block of that input. -/
theorem before_0 (d) : (dats m 0 c).before (0 : Fin 8) t0_0 d = stX m c := by unfold Dat.before; rw [if_pos (fetch0_0 t0_0)]; rfl
theorem before_1 (d) : (dats m 0 c).before (1 : Fin 8) t0_0 d = stI m 0 c := by unfold Dat.before; rw [if_pos (fetch0_1 t0_0)]; rfl
theorem before_2 (d) : (dats m 0 c).before (2 : Fin 8) t0_0 d = stO m 0 c := by unfold Dat.before; rw [if_pos (fetch0_2 t0_0)]; rfl
theorem before_3 (d) : (dats m 0 c).before (3 : Fin 8) t0_0 d = stI m 1 c := by unfold Dat.before; rw [if_pos (fetch0_3 t0_0)]; rfl
theorem before_4 (d) : (dats m 0 c).before (4 : Fin 8) t0_0 d = stO m 1 c := by unfold Dat.before; rw [if_pos (fetch0_4 t0_0)]; rfl
theorem before_5 (d) : (dats m 0 c).before (5 : Fin 8) t0_0 d = stI m 2 c := by unfold Dat.before; rw [if_pos (fetch0_5 t0_0)]; rfl
theorem before_6 (d) : (dats m 0 c).before (6 : Fin 8) t0_0 d = stO m 2 c := by unfold Dat.before; rw [if_pos (fetch0_6 t0_0)]; rfl

/-- What is staged before the body, as the body's start has it. -/
theorem pre_start : (bodyPre m c : sProp 𝕄) ⊢ iprop(∃ K, atStart m K c) := by
  unfold bodyPre Φ₀ start Dat.owesAt Pipeline.owesWithin
  simp only [before_0, before_1, before_2, before_3, before_4, before_5, before_6]
  iintro ⟨⟨⟨⟨%K, Hg⟩, Hcr, Hlev⟩, Hf, Hg'⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iexists K
  unfold atStart inputs owing
  isplitl [Hg]; · iexact Hg
  isplitl [Hcr]; · iexact Hcr
  isplitl [Hlev]; · iexact Hlev
  isplitl [HO]; · iexists W; iexact HO
  isplitl [Hf]; · iexact Hf
  isplitl [Hg']; · iexact Hg'
  isplitr [H7]
  · isplitl [H0]; · iexact H0
    isplitl [H1]; · iexact H1
    isplitl [H2]; · iexact H2
    isplitl [H3]; · iexact H3
    isplitl [H4]; · iexact H4
    isplitl [H5]; · iexact H5
    iexact H6
  · iexists _; iexact H7

/-- What the body ends with, as the pipeline wants it. -/
theorem end_post : (atEnd m c : sProp 𝕄) ⊢ bodyPost m c := by
  unfold atEnd bodyPost Φ₁ inputs owing Dat.owesAt Pipeline.owesWithin
  iintro ⟨Hall, Hbar, ⟨%W, HO⟩, ⟨H0, H1, H2, H3, H4, H5, H6⟩, H7⟩
  isplitl [Hall Hbar]
  · isplitl [Hall]; · iexact Hall
    iexact Hbar
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- From any of the names. -/
theorem exists_elim {P : (Dev nD × Cell → ℕ) → sProp 𝕄} {Q : sProp 𝕄} (h : ∀ K, P K ⊢ Q) : iprop(∃ K, P K) ⊢ Q := by
  iintro ⟨%K, H⟩
  iapply (h K)
  iexact H

set_option maxRecDepth 8000 in
/-- The pipeline's obligation for the body on device `c`. -/
theorem body_obligation : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) cc0_scratch2 cc0_scratch3)
    (fun _ => bodyPost m c)
  exact (pre_start m c).trans (exists_elim fun K => by
    iintro H
    ihave Hw := (body_run m K c) $$ H
    iapply (wp_wand (Fr := frame) (wpE := wpE (defs₀ (F := F)) 𝒱₀ (c : Thread nD τ) none) (E := Set.univ)) $$ Hw
    iintro %u H
    iapply (end_post m c)
    iexact H)

/-! ## The launch theorem's side conditions -/

theorem ownSemFacts : Pipeline.OwnSemFacts cfg0.spec osem where
  isScoped := by decide
  inj := osem_injective
  disj := by decide

theorem share_eq (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨⟨Hf, Hg, HS, HV⟩, HB⟩
  isplitl [HB]; · iexact HB
  isplitl [HS HV]
  · isplitl [HS]; · iexact HS
    iexact HV
  isplitl [Hf]
  · iexists _; iexact Hf
  · iexists _; iexact Hg

/-- Every wait of the pipeline on a staging semaphore is below what the device owes. -/
theorem waits : (levAts L lv : sProp 𝕄) ⊢ Pipeline.cellsWaits cfgs (dats m) () 0 c :=
  Pipeline.cellsWaits_intro cfgs (dats m) () 0 c fun w s t =>
    mayWait_stage c _ (by revert s; revert w; decide) _ (by
      rcases t with ⟨_ | _, ht⟩
      · exact Or.inl rfl
      · exact Or.inr rfl)

/-! ## The run -/

/-- What window `w`'s array holds at the end. -/
def finalA (w : Fin cfg0.W) : Buf (Elt F) ((cfg0.win w).arr.view.loc (c : Thread nD τ)) := (dats m 0 c).arrAt w cfg0.N

def Ended : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with all semaphores at zero: every fair execution of @main on the four devices
    ends, with every window's array at its final contents and all semaphores at zero. -/
theorem run_windows : θ_run defs (onTc (τ := τ) (main (F := F))) (s₀ m ρ) (fun r => Ended m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_gather m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- An input's array ends as it began. -/
theorem finalA_0 : finalA m c (0 : Fin 8) = m ((c : Thread nD τ).loc main_arg0) := (dats m 0 c).arrAt_in (0 : Fin 8) rfl _
theorem finalA_1 : finalA m c (1 : Fin 8) = m ((c : Thread nD τ).loc main_arg1) := (dats m 0 c).arrAt_in (1 : Fin 8) rfl _
theorem finalA_2 : finalA m c (2 : Fin 8) = m ((c : Thread nD τ).loc main_arg4) := (dats m 0 c).arrAt_in (2 : Fin 8) rfl _
theorem finalA_3 : finalA m c (3 : Fin 8) = m ((c : Thread nD τ).loc main_arg2) := (dats m 0 c).arrAt_in (3 : Fin 8) rfl _
theorem finalA_4 : finalA m c (4 : Fin 8) = m ((c : Thread nD τ).loc main_arg5) := (dats m 0 c).arrAt_in (4 : Fin 8) rfl _
theorem finalA_5 : finalA m c (5 : Fin 8) = m ((c : Thread nD τ).loc main_arg3) := (dats m 0 c).arrAt_in (5 : Fin 8) rfl _
theorem finalA_6 : finalA m c (6 : Fin 8) = m ((c : Thread nD τ).loc main_arg6) := (dats m 0 c).arrAt_in (6 : Fin 8) rfl _

end Cert.GatherProof

end
-- ==== Proof.Result.lean ====
/-
# Result: what the arrays hold when the program has ended

Every window is a whole array, fetched and written back in one piece, so the block a staging buffer carries is the array
itself. With the run this gives the program's end state: on every device the result's array holds `outAt`, the seven
arguments are as they were and every semaphore is at zero.
-/
module

public import proofs.«01_k».proof.Proof.Run
public import Idealize.ShloMosaic.Lib.Pipeline.Value

@[expose] public section

noncomputable section

namespace Cert.GatherProof

open Cert.KernelIdeal Cert.KernelIdeal.Gen
open Idealize.ShloMosaic
open Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)
variable (c : Dev nD)

/-! ## A window's one block is its array -/

/-- The block starts at the array's first element and steps by one, so reading it gives the array. -/
theorem read0 (f : (main_arg0 : Ref sig .tc).ty.Contents (Elt F)) : (win0_0.blk (0 : Fin 1)).view.read (Elt F) f = f := by
  funext j
  refine congrArg f (funext fun a => Fin.ext ?_)
  show 0 * _ + 1 * (j a).val = (j a).val
  omega
theorem read1 (f : (main_arg1 : Ref sig .tc).ty.Contents (Elt F)) : (win0_1.blk (0 : Fin 1)).view.read (Elt F) f = f := by
  funext j
  refine congrArg f (funext fun a => Fin.ext ?_)
  show 0 * _ + 1 * (j a).val = (j a).val
  omega
theorem read2 (f : (main_arg4 : Ref sig .tc).ty.Contents (Elt F)) : (win0_2.blk (0 : Fin 1)).view.read (Elt F) f = f := by
  funext j
  refine congrArg f (funext fun a => Fin.ext ?_)
  show 0 * _ + 1 * (j a).val = (j a).val
  omega
theorem read3 (f : (main_arg2 : Ref sig .tc).ty.Contents (Elt F)) : (win0_3.blk (0 : Fin 1)).view.read (Elt F) f = f := by
  funext j
  refine congrArg f (funext fun a => Fin.ext ?_)
  show 0 * _ + 1 * (j a).val = (j a).val
  omega
theorem read4 (f : (main_arg5 : Ref sig .tc).ty.Contents (Elt F)) : (win0_4.blk (0 : Fin 1)).view.read (Elt F) f = f := by
  funext j
  refine congrArg f (funext fun a => Fin.ext ?_)
  show 0 * _ + 1 * (j a).val = (j a).val
  omega
theorem read5 (f : (main_arg3 : Ref sig .tc).ty.Contents (Elt F)) : (win0_5.blk (0 : Fin 1)).view.read (Elt F) f = f := by
  funext j
  refine congrArg f (funext fun a => Fin.ext ?_)
  show 0 * _ + 1 * (j a).val = (j a).val
  omega
theorem read6 (f : (main_arg6 : Ref sig .tc).ty.Contents (Elt F)) : (win0_6.blk (0 : Fin 1)).view.read (Elt F) f = f := by
  funext j
  refine congrArg f (funext fun a => Fin.ext ?_)
  show 0 * _ + 1 * (j a).val = (j a).val
  omega
theorem read7 (f : (main_v1 : Ref sig .tc).ty.Contents (Elt F)) : (win0_7.blk (0 : Fin 1)).view.read (Elt F) f = f := by
  funext j
  refine congrArg f (funext fun a => Fin.ext ?_)
  show 0 * _ + 1 * (j a).val = (j a).val
  omega

/-- What the staging buffers carry is the arguments themselves. -/
theorem stX_eq : stX m c = m ((c : Thread nD τ).loc main_arg0) := read0 _
theorem stI0_eq : stI m 0 c = m ((c : Thread nD τ).loc main_arg1) := read1 _
theorem stI1_eq : stI m 1 c = m ((c : Thread nD τ).loc main_arg2) := read3 _
theorem stI2_eq : stI m 2 c = m ((c : Thread nD τ).loc main_arg3) := read5 _
theorem stO0_eq : stO m 0 c = m ((c : Thread nD τ).loc main_arg4) := read2 _
theorem stO1_eq : stO m 1 c = m ((c : Thread nD τ).loc main_arg5) := read4 _
theorem stO2_eq : stO m 2 c = m ((c : Thread nD τ).loc main_arg6) := read6 _

/-! ## The end state -/

/-- The result's array ends at what the kernel wrote to its staging buffer. -/
theorem finalA_7 : finalA m c (7 : Fin 8) = outAt m c := by
  have h := (dats m 0 c).read_blk_arrAt_eq_flushed (7 : Fin 8)
    (fun t t' _ _ hne => absurd (Subsingleton.elim (α := Fin 1) t t') hne) 1 (0 : Fin 1) Nat.zero_lt_one (flush0_7 _)
  exact (read7 (finalA m c (7 : Fin 8))).symm.trans h

/-- What every device holds at the end: the result and the seven arguments as they began. -/
def Holds (r : PUnit × MemSt nD τ sig (Elt F)) : Prop := ∀ c : Dev nD,
  r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

/-- THE RUN of @main, for any float values: from any memory with all semaphores at zero, every fair execution on the four
    devices ends, with the result's arrays at `outAt`, the arguments unchanged and all semaphores at zero. -/
theorem run_main : θ_run defs (onTc (τ := τ) (main (F := F))) (s₀ m ρ) (fun r => Holds m r ∧ r.2.sem = fun _ => 0) :=
  (θ_run defs _ _).mono (fun r h => ⟨fun c =>
    ⟨(h.1 c (7 : Fin 8)).trans (finalA_7 m c), (h.1 c (0 : Fin 8)).trans (finalA_0 m c),
      (h.1 c (1 : Fin 8)).trans (finalA_1 m c), (h.1 c (3 : Fin 8)).trans (finalA_3 m c),
      (h.1 c (5 : Fin 8)).trans (finalA_5 m c), (h.1 c (2 : Fin 8)).trans (finalA_2 m c),
      (h.1 c (4 : Fin 8)).trans (finalA_4 m c), (h.1 c (6 : Fin 8)).trans (finalA_6 m c)⟩, h.2⟩) (run_windows m ρ)

end Cert.GatherProof

end
-- ==== Proof.Value.lean ====
/-
# Value: what one block of a layer computes

A layer of the kernel multiplies the device's rows by one `Win` block, clips below at zero, multiplies by the matching
`Wout` block, and adds the four blocks' products. Here that is read at an element, in exact arithmetic: a sum over the
hidden units of one block, and the sum of four of them.
-/
module

public import proofs.«01_k».proof.Proof.Result
public import Idealize.ShloMosaic.Lib.MatmulPlain
public import Idealize.ShloMosaic.Lib.IdealHost

@[expose] public section

set_option maxRecDepth 16384

noncomputable section

namespace Cert.GatherProof

open Cert.KernelIdeal Cert.KernelIdeal.Gen
open Idealize.ShloMosaic
open Idealize.ShloMosaic.TcCoe
open Idealize.ShloMosaic.ValueIdx

/-! ## The layer in plain mathematics -/

/-- One layer at row `r`, column `j`: over the hidden units `h`, the row's product with unit `h`'s weights, at least zero,
    times the unit's output weight. `N` rows of 128, `H` hidden units. -/
def ffn {N H : ℕ} (x : (⟨2, ![N, 128]⟩ : Shape).Idx → EReal) (w : (⟨2, ![128, H]⟩ : Shape).Idx → EReal)
    (o : (⟨2, ![H, 128]⟩ : Shape).Idx → EReal) (r : Fin N) (j : Fin 128) : EReal :=
  ∑ h : Fin H, max (∑ k : Fin 128, x (ix2 r k) * w (ix2 k h)) 0 * o (ix2 h j)

/-! ## The kernel's layers as sums of four blocks' products -/

section AnyFloats
variable {F : FTy → Type} [FloatOps F]
variable (m : (ℓ : Loc nD τ sig) → Buf (Elt F) ℓ)

/-- One block's contribution to a layer, as the kernel computes it. -/
def part (x : FVec F S128x128 .bf16) (wi : FVec F S128x256 .bf16) (wo : FVec F S256x128 .bf16) : FVec F S128x128 .f32 :=
  matmul dot_S128x256_S256x128_S128x128_1_0_0_1_n_n none
    (truncf .bf16 (maximumf (matmul dot_S128x128_S128x256_S128x256_1_0_0_1_n_n none x wi (constant S128x256 .f32 0x00000000#32))
      (broadcast S128x256 (Scalar.ofBits .f32 0x00000000#32))) bitsLt_bf16_f32)
    wo (constant S128x128 .f32 0x00000000#32)

/-- The four contributions added up, device by device, from zero. -/
def total (x : FVec F S128x128 .bf16) (wi : Dev nD → FVec F S128x256 .bf16) (wo : Dev nD → FVec F S256x128 .bf16) :
    FVec F S128x128 .f32 :=
  addf (addf (addf (addf (broadcast S128x128 (Scalar.ofBits .f32 0x00000000#32)) (part x (wi 0) (wo 0))) (part x (wi 1) (wo 1)))
    (part x (wi 2) (wo 2))) (part x (wi 3) (wo 3))

/-- A gathered row, its leading axis dropped again, is the block it was made from. -/
theorem dropI (l : Fin 3) (d : Dev nD) : shapeCast S128x256 (rowValI m (row l d)) shapeCasts_S1x128x256_S128x256 = stI m l d := by
  unfold rowValI k0_pay1
  rw [rowL_row, rowD_row]
  simp only [shapeCast_self, shapeCast_shapeCast]
theorem dropO (l : Fin 3) (d : Dev nD) : shapeCast S256x128 (rowValO m (row l d)) shapeCasts_S1x256x128_S256x128 = stO m l d := by
  unfold rowValO k0_pay2
  rw [rowL_row, rowD_row]
  simp only [shapeCast_self, shapeCast_shapeCast]

/-- The sum over the gathered rows of layer `l` is the sum over the devices' blocks. -/
theorem total_rows (l : Fin 3) (x : FVec F S128x128 .bf16) :
    total x (fun d => shapeCast S128x256 (rowValI m (row l d)) shapeCasts_S1x128x256_S128x256)
      (fun d => shapeCast S256x128 (rowValO m (row l d)) shapeCasts_S1x256x128_S256x128) = total x (stI m l) (stO m l) := by
  rw [show (fun d => shapeCast S128x256 (rowValI m (row l d)) shapeCasts_S1x128x256_S128x256) = stI m l from funext (dropI m l),
    show (fun d => shapeCast S256x128 (rowValO m (row l d)) shapeCasts_S1x256x128_S256x128) = stO m l from funext (dropO m l)]

/-- The three layers: the first two round their sum to the narrow format, the third writes it as it is. -/
theorem layer0_eq (x : FVec F S128x128 .bf16) : layer0 m x = truncf .bf16 (total x (stI m 0) (stO m 0)) bitsLt_bf16_f32 :=
  (show layer0 m x = truncf .bf16 (total x (fun d => shapeCast S128x256 (rowValI m (row 0 d)) shapeCasts_S1x128x256_S128x256)
      (fun d => shapeCast S256x128 (rowValO m (row 0 d)) shapeCasts_S1x256x128_S256x128)) bitsLt_bf16_f32 from rfl).trans
    (congrArg (fun z => truncf .bf16 z bitsLt_bf16_f32) (total_rows m 0 x))
theorem layer1_eq (x : FVec F S128x128 .bf16) : layer1 m x = truncf .bf16 (total x (stI m 1) (stO m 1)) bitsLt_bf16_f32 :=
  (show layer1 m x = truncf .bf16 (total x (fun d => shapeCast S128x256 (rowValI m (row 1 d)) shapeCasts_S1x128x256_S128x256)
      (fun d => shapeCast S256x128 (rowValO m (row 1 d)) shapeCasts_S1x256x128_S256x128)) bitsLt_bf16_f32 from rfl).trans
    (congrArg (fun z => truncf .bf16 z bitsLt_bf16_f32) (total_rows m 1 x))
theorem layer2_eq (x : FVec F S128x128 .bf16) : layer2 m x = total x (stI m 2) (stO m 2) :=
  (show layer2 m x = total x (fun d => shapeCast S128x256 (rowValI m (row 2 d)) shapeCasts_S1x128x256_S128x256)
      (fun d => shapeCast S256x128 (rowValO m (row 2 d)) shapeCasts_S1x256x128_S256x128) from rfl).trans (total_rows m 2 x)

/-- The first layer starts from the device's own block of `x`. -/
theorem start_eq (x : Vec F S128x128 .bf16) : k0_pay7 x = x := shapeCast_self _ _

end AnyFloats

/-! ## In exact arithmetic -/

/-- One block's contribution at an element. -/
theorem part_apply (x : FVec Ideal S128x128 .bf16) (wi : FVec Ideal S128x256 .bf16) (wo : FVec Ideal S256x128 .bf16)
    (r : Fin 128) (j : Fin 128) : part x wi wo (ix2 r j) = ffn x wi wo r j := by
  have hin (h : Fin 256) : (matmul dot_S128x128_S128x256_S128x256_1_0_0_1_n_n none x wi (constant S128x256 .f32 0x00000000#32)
      : FVec Ideal S128x256 .f32) (ix2 r h) = ∑ k : Fin 128, x (ix2 r k) * wi (ix2 k h) :=
    (Ideal.matmul_plain_apply none x wi _ r h).trans ((congrArg (· + _) Ideal.ofBits_zero_f32).trans (zero_add _))
  refine (Ideal.matmul_plain_apply none _ wo _ r j).trans ((congrArg (· + _) Ideal.ofBits_zero_f32).trans ((zero_add _).trans ?_))
  refine Finset.sum_congr rfl fun h _ => congrArg (· * _) ?_
  show max _ (Ideal.ofBits .f32 0x00000000#32) = _
  rw [hin h, Ideal.ofBits_zero_f32]

/-- A layer's sum at an element: the four blocks' contributions. -/
theorem total_apply (x : FVec Ideal S128x128 .bf16) (wi : Dev nD → FVec Ideal S128x256 .bf16) (wo : Dev nD → FVec Ideal S256x128 .bf16)
    (r : Fin 128) (j : Fin 128) : total x wi wo (ix2 r j) = ∑ d : Fin 4, ffn x (wi d) (wo d) r j := by
  show Ideal.ofBits .f32 0x00000000#32 + part x (wi 0) (wo 0) (ix2 r j) + part x (wi 1) (wo 1) (ix2 r j)
    + part x (wi 2) (wo 2) (ix2 r j) + part x (wi 3) (wo 3) (ix2 r j) = _
  rw [Ideal.ofBits_zero_f32, zero_add, Fin.sum_univ_four]
  simp only [part_apply]

end Cert.GatherProof

end
-- ==== Proof.Reference.lean ====
/-
# Reference: what the plain mathematics computes

The reference runs the three layers over the whole arrays. In exact arithmetic each is `ffn` of the whole arrays, element
by element.
-/
module

public import proofs.«01_k».proof.Proof.Value
public import proofs.«01_k».proof.Proof.Gen.ReferenceIdeal
public import proofs.«01_k».proof.Proof.Gen.ReferenceIdeal.Run
public import Idealize.ShloMosaic.Lib.StackMember

@[expose] public section

set_option maxRecDepth 16384

noncomputable section

namespace Cert.GatherProof

open Cert.ReferenceIdeal Cert.ReferenceIdeal.Gen
open Idealize.ShloMosaic
open Idealize.ShloMosaic.ValueIdx

/-- One layer of the reference, over the whole arrays. -/
def refLayer (x : FVec Ideal S512x128 .bf16) (w : FVec Ideal S128x1024 .bf16) (o : FVec Ideal S1024x128 .bf16) : FVec Ideal S512x128 .bf16 :=
  truncf .bf16 (Host.dotGeneral dot_S512x1024_S1024x128_S512x128_1_0_0_1_n_n none
    (maximumf (truncf .bf16 (Host.dotGeneral dot_S512x128_S128x1024_S512x1024_1_0_0_1_n_n none x w) bitsLt_bf16_f32)
      (broadcastInDim S512x1024 ![] bcast_S_S512x1024 (constant S_ .bf16 0x0000#16))) o) bitsLt_bf16_f32

/-- The reference's result: three layers, then the wide format. -/
def refOut (x : FVec Ideal S512x128 .bf16) (w0 w1 w2 : FVec Ideal S128x1024 .bf16) (o0 o1 o2 : FVec Ideal S1024x128 .bf16) : FVec Ideal S512x128 .f32 :=
  extf .f32 (refLayer (refLayer (refLayer x w0 o0) w1 o1) w2 o2) bitsLt_bf16_f32

/-- A layer of the reference at an element. -/
theorem refLayer_apply (x : FVec Ideal S512x128 .bf16) (w : FVec Ideal S128x1024 .bf16) (o : FVec Ideal S1024x128 .bf16)
    (r : Fin 512) (j : Fin 128) : refLayer x w o (ix2 r j) = ffn x w o r j := by
  refine (StackMember.dotGeneral_plain_apply none _ o r j).trans (Finset.sum_congr rfl fun h _ => congrArg (· * _) ?_)
  show max ((Host.dotGeneral dot_S512x128_S128x1024_S512x1024_1_0_0_1_n_n none x w : FVec Ideal S512x1024 .f32) (ix2 r h))
    (Ideal.ofBits .bf16 0x0000#16) = _
  rw [Ideal.ofBits_zero_bf16]
  exact congrArg (max · 0) (StackMember.dotGeneral_plain_apply none x w r h)

end Cert.GatherProof

end
-- ==== Proof.Equation.lean ====
/-
# Equation: a device's rows of the whole layer

Device `c` holds rows of `x`; the hidden units are cut into four blocks of 256. Summing over the blocks and then over the
units of a block is summing over all 1024 units, so what device `c` computes is its own rows of the reference's layer. Three
layers in turn give the result.
-/
module

public import proofs.«01_k».proof.Proof.Reference
public import Idealize.ShloMosaic.Lib.Layout

@[expose] public section

set_option maxRecDepth 16384

noncomputable section

namespace Cert.GatherProof

open Idealize.ShloMosaic
open Idealize.ShloMosaic.ValueIdx

/-- Block `c` of an array of rows; -/
abbrev rowsOf {α : Type} (c : Fin 4) (v : (⟨2, ![512, 128]⟩ : Shape).Idx → α) := Layout.block ⟨2, ![128, 128]⟩ ⟨2, ![512, 128]⟩ 0 4 c v
/-- of the layer's input weights, cut along the hidden units; -/
abbrev inOf {α : Type} (c : Fin 4) (v : (⟨2, ![128, 1024]⟩ : Shape).Idx → α) := Layout.block ⟨2, ![128, 256]⟩ ⟨2, ![128, 1024]⟩ 1 4 c v
/-- of its output weights, cut likewise. -/
abbrev outOf {α : Type} (c : Fin 4) (v : (⟨2, ![1024, 128]⟩ : Shape).Idx → α) := Layout.block ⟨2, ![256, 128]⟩ ⟨2, ![1024, 128]⟩ 0 4 c v

/-- Row `r` of block `c` in the whole array; -/
def wholeRow (c : Fin 4) (r : Fin 128) : Fin 512 := ⟨c.val * 128 + r.val, by have := c.isLt; have := r.isLt; omega⟩
/-- hidden unit `h` of block `d` among all. -/
def wholeUnit (d : Fin 4) (h : Fin 256) : Fin 1024 := ⟨d.val * 256 + h.val, by have := d.isLt; have := h.isLt; omega⟩

variable {α : Type}

/-- A block's element is the whole array's at the shifted coordinate. -/
theorem rowsOf_apply (c : Fin 4) (v : (⟨2, ![512, 128]⟩ : Shape).Idx → α) (r k : Fin 128) : rowsOf c v (ix2 r k) = v (ix2 (wholeRow c r) k) :=
  congrArg v (funext fun a => Fin.ext (by match a with | ⟨0, _⟩ => rfl | ⟨1, _⟩ => rfl))
theorem inOf_apply (d : Fin 4) (v : (⟨2, ![128, 1024]⟩ : Shape).Idx → α) (k : Fin 128) (h : Fin 256) : inOf d v (ix2 k h) = v (ix2 k (wholeUnit d h)) :=
  congrArg v (funext fun a => Fin.ext (by match a with | ⟨0, _⟩ => rfl | ⟨1, _⟩ => rfl))
theorem outOf_apply (d : Fin 4) (v : (⟨2, ![1024, 128]⟩ : Shape).Idx → α) (h : Fin 256) (j : Fin 128) : outOf d v (ix2 h j) = v (ix2 (wholeUnit d h) j) :=
  congrArg v (funext fun a => Fin.ext (by match a with | ⟨0, _⟩ => rfl | ⟨1, _⟩ => rfl))

/-- A sum over all hidden units, block by block. -/
theorem sum_units (f : Fin 1024 → EReal) : ∑ u : Fin 1024, f u = ∑ d : Fin 4, ∑ h : Fin 256, f (wholeUnit d h) := by
  rw [← Fintype.sum_prod_type', ← Equiv.sum_comp (finProdFinEquiv (m := 4) (n := 256))]
  refine Finset.sum_congr rfl fun p _ => congrArg f (Fin.ext ?_)
  show p.2.val + 256 * p.1.val = p.1.val * 256 + p.2.val
  omega

/-- The four blocks' contributions to device `c`'s row are the whole layer at that row. -/
theorem ffn_blocks (c : Fin 4) (X : (⟨2, ![512, 128]⟩ : Shape).Idx → EReal) (W : (⟨2, ![128, 1024]⟩ : Shape).Idx → EReal)
    (O : (⟨2, ![1024, 128]⟩ : Shape).Idx → EReal) (r j : Fin 128) :
    ∑ d : Fin 4, ffn (rowsOf c X) (inOf d W) (outOf d O) r j = ffn X W O (wholeRow c r) j := by
  unfold ffn
  rw [sum_units]
  simp only [rowsOf_apply, inOf_apply, outOf_apply]

open Cert.KernelIdeal in
/-- A layer's sum on device `c` is its rows of the reference's layer. -/
theorem total_block (c : Fin 4) (X : (⟨2, ![512, 128]⟩ : Shape).Idx → EReal) (W : (⟨2, ![128, 1024]⟩ : Shape).Idx → EReal)
    (O : (⟨2, ![1024, 128]⟩ : Shape).Idx → EReal) :
    total (F := Ideal) (rowsOf c X) (fun d => inOf d W) (fun d => outOf d O) = rowsOf c (refLayer X W O) := by
  funext i
  rw [eq_ix2 i]
  exact (total_apply _ _ _ _ _).trans ((ffn_blocks c X W O _ _).trans
    ((refLayer_apply X W O _ _).symm.trans (rowsOf_apply c (refLayer X W O) _ _).symm))

open Cert.KernelIdeal in
/-- THE EQUATION: when each device's arguments are its blocks of the whole arrays, what device `c` writes is block `c` of the
    reference's result. -/
theorem out_eq (m : (ℓ : Loc nD τ sig) → Buf (Elt Ideal) ℓ) (X : (⟨2, ![512, 128]⟩ : Shape).Idx → EReal)
    (W : Fin 3 → (⟨2, ![128, 1024]⟩ : Shape).Idx → EReal) (O : Fin 3 → (⟨2, ![1024, 128]⟩ : Shape).Idx → EReal)
    (hX : ∀ c, stX m c = rowsOf c X) (hW : ∀ l c, stI m l c = inOf c (W l)) (hO : ∀ l c, stO m l c = outOf c (O l)) (c : Dev nD) :
    outAt m c = rowsOf c (refOut X (W 0) (W 1) (W 2) (O 0) (O 1) (O 2)) := by
  have step (l : Fin 3) (Y : (⟨2, ![512, 128]⟩ : Shape).Idx → EReal) :
      total (F := Ideal) (rowsOf c Y) (stI m l) (stO m l) = rowsOf c (refLayer Y (W l) (O l)) := by
    rw [show stI m l = fun d => inOf d (W l) from funext (hW l), show stO m l = fun d => outOf d (O l) from funext (hO l)]
    exact total_block c Y (W l) (O l)
  have h0 : layer0 m (Cert.KernelIdeal.Gen.k0_pay7 (stX m c)) = rowsOf c (refLayer X (W 0) (O 0)) := by
    rw [start_eq, hX, layer0_eq]
    exact step 0 X
  have h1 : layer1 m (rowsOf c (refLayer X (W 0) (O 0))) = rowsOf c (refLayer (refLayer X (W 0) (O 0)) (W 1) (O 1)) := by
    rw [layer1_eq]
    exact step 1 _
  unfold outAt
  rw [h0, h1, layer2_eq]
  exact step 2 _

end Cert.GatherProof

end
-- ==== Proof.lean ====
/-
# Proof: the claims, assembled

`Result` gives the run of the kernel's program for any float values, hence both its frames; `Equation` says that in exact
arithmetic what each device then holds is its block of what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.GatherProof

/-- The program printed for exact arithmetic is the kernel's own: the same kernel body, -/
theorem bodies_eq : Cert.Kernel.defs₀ (F := Bits) = Cert.KernelIdeal.defs₀ (F := Bits) :=
  congrArg Defs.onTc (funext fun l => funext fun a => match l, a with
    | 0, (t, s) => rfl
    | ⟨_ + 1, h⟩, _ => absurd h (Nat.not_lt.2 (Nat.le_add_left _ _)))
/-- and the same pipeline around it. -/
theorem defs_eq : Cert.Kernel.defs (F := Bits) = Cert.KernelIdeal.defs (F := Bits) :=
  congrArg (Pipeline.defs Cert.KernelIdeal.pcfgs) bodies_eq

/-- The kernel's program, in its own formats: every execution ends, the arguments are kept, all semaphores end at zero. -/
theorem frame_kernel : Cert.quiescent_Kernel := fun m ρ _ =>
  (congrArg (fun D => θ_run D _ _ _) defs_eq).mpr
    ((θ_run Cert.KernelIdeal.defs _ _).mono (fun _ h => ⟨fun c => (h.1 c).2, h.2⟩) (run_main (F := Bits) m ρ))

/-- The same in exact arithmetic. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference is a straight line of array operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Nothing was rewritten on the way to exact arithmetic. -/
theorem preserves : Cert.preserves_Kernel_KernelIdeal := trivial

/-- In exact arithmetic the four devices' results are the four blocks of rows of the reference's result. -/
theorem algebraic : Cert.algebraic_KernelIdeal_ReferenceIdeal := by
  intro m g m' g' _ hag
  let at' (b : Ref Cert.ReferenceIdeal.sig .tc) := m' (((0 : Dev Cert.ReferenceIdeal.nD).tc : Thread Cert.ReferenceIdeal.nD Cert.ReferenceIdeal.τ).loc b)
  let W : Fin 3 → (⟨2, ![128, 1024]⟩ : Shape).Idx → EReal := fun l => match l with
    | 0 => at' Cert.ReferenceIdeal.main_arg1 | 1 => at' Cert.ReferenceIdeal.main_arg2 | 2 => at' Cert.ReferenceIdeal.main_arg3
  let O : Fin 3 → (⟨2, ![1024, 128]⟩ : Shape).Idx → EReal := fun l => match l with
    | 0 => at' Cert.ReferenceIdeal.main_arg4 | 1 => at' Cert.ReferenceIdeal.main_arg5 | 2 => at' Cert.ReferenceIdeal.main_arg6
  have hout (c : Dev Cert.KernelIdeal.nD) := out_eq m (at' Cert.ReferenceIdeal.main_arg0) W O
    (fun c => (stX_eq m c).trans (hag c).1)
    (fun l c => match l with
      | 0 => (stI0_eq m c).trans (hag c).2.1
      | 1 => (stI1_eq m c).trans (hag c).2.2.1
      | 2 => (stI2_eq m c).trans (hag c).2.2.2.1)
    (fun l c => match l with
      | 0 => (stO0_eq m c).trans (hag c).2.2.2.2.1
      | 1 => (stO1_eq m c).trans (hag c).2.2.2.2.2.1
      | 2 => (stO2_eq m c).trans (hag c).2.2.2.2.2.2) c
  exact ⟨_, (θ_run Cert.KernelIdeal.defs _ _).mono (fun _ h c => ⟨(h.1 c).1.trans (hout c), (h.1 c).2⟩) (run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, preserves, algebraic⟩

end Cert.Proof

end
